-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x64 : Shape := ⟨3, ![16, 576, 64]⟩
abbrev S8192x64 : Shape := ⟨2, ![8192, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S8192 : Shape := ⟨1, ![8192]⟩
abbrev S8192x1 : Shape := ⟨2, ![8192, 1]⟩
abbrev S1x8192 : Shape := ⟨2, ![1, 8192]⟩
abbrev S9216x8192 : Shape := ⟨2, ![9216, 8192]⟩
abbrev S1x1 : Shape := ⟨2, ![1, 1]⟩
abbrev S256x64 : Shape := ⟨2, ![256, 64]⟩
abbrev S256x1 : Shape := ⟨2, ![256, 1]⟩
abbrev S256x8192 : Shape := ⟨2, ![256, 8192]⟩
abbrev S8192x128 : Shape := ⟨2, ![8192, 128]⟩
abbrev S256x128 : Shape := ⟨2, ![256, 128]⟩
abbrev S8192x63 : Shape := ⟨2, ![8192, 63]⟩
abbrev S256 : Shape := ⟨1, ![256]⟩
abbrev S1x256 : Shape := ⟨2, ![1, 256]⟩
abbrev S1 : Shape := ⟨1, ![1]⟩
abbrev S1x256x64 : Shape := ⟨3, ![1, 256, 64]⟩
abbrev S1x1x1 : Shape := ⟨3, ![1, 1, 1]⟩
abbrev S1x1x8192 : Shape := ⟨3, ![1, 1, 8192]⟩

abbrev nBuf : Space → Nat
  | .hbm => 40
  | .vmem => 17
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S9216x1, .f32⟩
  | .hbm, ⟨8, _⟩ => ⟨S_, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x64, .f32⟩
  | .hbm, ⟨13, _⟩ => ⟨S9216x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S9216x64, .f32⟩
  | .hbm, ⟨26, _⟩ => ⟨S_, .f32⟩
  | .hbm, ⟨27, _⟩ => ⟨S9216, .f32⟩
  | .hbm, ⟨28, _⟩ => ⟨S9216x1, .f32⟩
  | .hbm, ⟨29, _⟩ => ⟨S8192x64, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S9216x8192, .f32⟩
  | .hbm, ⟨34, _⟩ => ⟨S9216x64, .f32⟩
  | .hbm, ⟨35, _⟩ => ⟨S1x1, .f32⟩
  | .hbm, ⟨36, _⟩ => ⟨S1x1, .f32⟩
  | .hbm, ⟨37, _⟩ => ⟨S16x576x64, .f32⟩
  | .hbm, ⟨38, _⟩ => ⟨S_, .f32⟩
  | .hbm, ⟨39, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S256x1, .f32⟩
  | .local _ .vmem, ⟨3, _⟩ => ⟨S256x1, .f32⟩
  | .local _ .vmem, ⟨4, _⟩ => ⟨S8192x64, .f32⟩
  | .local _ .vmem, ⟨5, _⟩ => ⟨S1x8192, .f32⟩
  | .local _ .vmem, ⟨6, _⟩ => ⟨S8192x64, .f32⟩
  | .local _ .vmem, ⟨7, _⟩ => ⟨S256x8192, .f32⟩
  | .local _ .vmem, ⟨8, _⟩ => ⟨S256x8192, .f32⟩
  | .local _ .vmem, ⟨9, _⟩ => ⟨S256x64, .f32⟩
  | .local _ .vmem, ⟨10, _⟩ => ⟨S256x64, .f32⟩
  | .local _ .vmem, ⟨11, _⟩ => ⟨S1x1, .f32⟩
  | .local _ .vmem, ⟨12, _⟩ => ⟨S1x1, .f32⟩
  | .local _ .vmem, ⟨13, _⟩ => ⟨S8192x64, .bf16⟩
  | .local _ .vmem, ⟨14, _⟩ => ⟨S1x8192, .f32⟩
  | .local _ .vmem, ⟨15, _⟩ => ⟨S8192x128, .bf16⟩
  | .local _ .vmem, ⟨16, _⟩ => ⟨S256x128, .f32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_v0 : Ref sig .tc := ⟨.hbm, 3, rfl⟩
abbrev main_call0_call0_cst : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_v1 : Ref sig .tc := ⟨.hbm, 7, rfl⟩
abbrev main_call0_cst : Ref sig .tc := ⟨.hbm, 8, rfl⟩
abbrev main_call0_call1_v0 : Ref sig .tc := ⟨.hbm, 9, rfl⟩
abbrev main_call0_call1_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_call2_v0 : Ref sig .tc := ⟨.hbm, 14, rfl⟩
abbrev main_call0_call2_cst : Ref sig .tc := ⟨.hbm, 15, rfl⟩
abbrev main_call0_call2_v1 : Ref sig .tc := ⟨.hbm, 16, rfl⟩
abbrev main_call0_call2_v2 : Ref sig .tc := ⟨.hbm, 17, rfl⟩
abbrev main_call0_v5 : Ref sig .tc := ⟨.hbm, 18, rfl⟩
abbrev main_call0_cst_0 : Ref sig .tc := ⟨.hbm, 19, rfl⟩
abbrev main_call0_call3_v0 : Ref sig .tc := ⟨.hbm, 20, rfl⟩
abbrev main_call0_call3_v1 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_cst_1 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_2 : Ref sig .tc := ⟨.hbm, 30, rfl⟩
abbrev main_call0_v13 : Ref sig .tc := ⟨.hbm, 31, rfl⟩
abbrev main_call0_v14 : Ref sig .tc := ⟨.hbm, 32, rfl⟩
abbrev main_v0_3 : Ref sig .tc := ⟨.hbm, 33, rfl⟩
abbrev main_call0_v15_1 : Ref sig .tc := ⟨.hbm, 34, rfl⟩
abbrev main_call0_v15_2 : Ref sig .tc := ⟨.hbm, 35, rfl⟩
abbrev main_call0_v15_3 : Ref sig .tc := ⟨.hbm, 36, rfl⟩
abbrev main_v0_0 : Ref sig .tc := ⟨.hbm, 37, rfl⟩
abbrev main_v0_1 : Ref sig .tc := ⟨.hbm, 38, rfl⟩
abbrev main_v0_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![36], ![false]⟩

def k0_cond3 (i : grid0.Coords) : BitVec 1 :=
  let arg0 : BitVec 32 := BitVec.ofNat 32 (i 0).val
  let c35_i32 : BitVec 32 := 35#32
  let v77 : BitVec 1 := Scalar.cmpi .eq arg0 c35_i32
  let v78 : BitVec 32 := Scalar.extui v77
  let c0_i32_39 : BitVec 32 := 0#32
  let v79 : BitVec 1 := Scalar.cmpi .ne v78 c0_i32_39
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16x576x64 : Shape := ⟨3, ![16, 576, 64]⟩
abbrev S8192x64 : Shape := ⟨2, ![8192, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S8192 : Shape := ⟨1, ![8192]⟩
abbrev S8192x1 : Shape := ⟨2, ![8192, 1]⟩
abbrev S1x8192 : Shape := ⟨2, ![1, 8192]⟩
abbrev S9216x8192 : Shape := ⟨2, ![9216, 8192]⟩
abbrev S64x8192 : Shape := ⟨2, ![64, 8192]⟩
abbrev S16x576 : Shape := ⟨2, ![16, 576]⟩
abbrev S16x576x1 : Shape := ⟨3, ![16, 576, 1]⟩

abbrev nBuf : Space → Nat
  | .hbm => 108
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S8192x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S9216x1, .f32⟩
  | .hbm, ⟨8, _⟩ => ⟨S_, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x64, .f32⟩
  | .hbm, ⟨13, _⟩ => ⟨S9216x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x64, .f32⟩
  | .hbm, ⟨24, _⟩ => ⟨S8192x64, .f32⟩
  | .hbm, ⟨25, _⟩ => ⟨S9216x64, .f32⟩
  | .hbm, ⟨26, _⟩ => ⟨S_, .f32⟩
  | .hbm, ⟨27, _⟩ => ⟨S9216, .f32⟩
  | .hbm, ⟨28, _⟩ => ⟨S9216x1, .f32⟩
  | .hbm, ⟨29, _⟩ => ⟨S8192x64, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S9216x8192, .f32⟩
  | .hbm, ⟨34, _⟩ => ⟨S9216x8192, .f32⟩
  | .hbm, ⟨35, _⟩ => ⟨S9216x8192, .f32⟩
  | .hbm, ⟨36, _⟩ => ⟨S64x8192, .f32⟩
  | .hbm, ⟨37, _⟩ => ⟨S9216x8192, .f32⟩
  | .hbm, ⟨38, _⟩ => ⟨S_, .f32⟩
  | .hbm, ⟨39, _⟩ => ⟨S9216x8192, .f32⟩
  | .hbm, ⟨40, _⟩ => ⟨S9216x8192, .f32⟩
  | .hbm, ⟨41, _⟩ => ⟨S9216x8192, .f32⟩
  | .hbm, ⟨42, _⟩ => ⟨S9216x8192, .i32⟩
  | .hbm, ⟨43, _⟩ => ⟨S_, .f32⟩
  | .hbm, ⟨44, _⟩ => ⟨S_, .i32⟩
  | .hbm, ⟨45, _⟩ => ⟨S9216, .f32⟩
  | .hbm, ⟨46, _⟩ => ⟨S9216, .i32⟩
  | .hbm, ⟨47, _⟩ => ⟨S9216x1, .i32⟩
  | .hbm, ⟨48, _⟩ => ⟨S1x8192, .i32⟩
  | .hbm, ⟨49, _⟩ => ⟨S9216x8192, .i32⟩
  | .hbm, ⟨50, _⟩ => ⟨S9216x8192, .i32⟩
  | .hbm, ⟨51, _⟩ => ⟨S9216x8192, .i1⟩
  | .hbm, ⟨52, _⟩ => ⟨S9216x8192, .f32⟩
  | .hbm, ⟨53, _⟩ => ⟨S9216x64, .f32⟩
  | .hbm, ⟨54, _⟩ => ⟨S16x576x64, .f32⟩
  | .hbm, ⟨55, _⟩ => ⟨S16x576x64, .f32⟩
  | .hbm, ⟨56, _⟩ => ⟨S_, .f32⟩
  | .hbm, ⟨57, _⟩ => ⟨S16x576, .f32⟩
  | .hbm, ⟨58, _⟩ => ⟨S16x576x1, .f32⟩
  | .hbm, ⟨59, _⟩ => ⟨S16x576x1, .f32⟩
  | .hbm, ⟨60, _⟩ => ⟨S_, .f32⟩
  | .hbm, ⟨61, _⟩ => ⟨S_, .f32⟩
  | .hbm, ⟨62, _⟩ => ⟨S16x576x1, .f32⟩
  | .hbm, ⟨63, _⟩ => ⟨S16x576x1, .f32⟩
  | .hbm, ⟨64, _⟩ => ⟨S16x576x64, .f32⟩
  | .hbm, ⟨65, _⟩ => ⟨S16x576x64, .f32⟩
  | .hbm, ⟨66, _⟩ => ⟨S16x576x64, .f32⟩
  | .hbm, ⟨67, _⟩ => ⟨S_, .f32⟩
  | .hbm, ⟨68, _⟩ => ⟨S16x576, .f32⟩
  | .hbm, ⟨69, _⟩ => ⟨S16x576x1, .f32⟩
  | .hbm, ⟨70, _⟩ => ⟨S16x576x1, .f32⟩
  | .hbm, ⟨71, _⟩ => ⟨S_, .f32⟩
  | .hbm, ⟨72, _⟩ => ⟨S_, .f32⟩
  | .hbm, ⟨73, _⟩ => ⟨S16x576x1, .f32⟩
  | .hbm, ⟨74, _⟩ => ⟨S16x576x1, .f32⟩
  | .hbm, ⟨75, _⟩ => ⟨S16x576x64, .f32⟩
  | .hbm, ⟨76, _⟩ => ⟨S16x576x64, .f32⟩
  | .hbm, ⟨77, _⟩ => ⟨S16x576x64, .f32⟩
  | .hbm, ⟨78, _⟩ => ⟨S16x576x64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16x576x64, .f32⟩
  | .hbm, ⟨84, _⟩ => ⟨S16x576x64, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S16x576x64, .f32⟩
  | .hbm, ⟨93, _⟩ => ⟨S16x576x64, .f32⟩
  | .hbm, ⟨94, _⟩ => ⟨S_, .f32⟩
  | .hbm, ⟨95, _⟩ => ⟨S8192, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v5 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call4_v0 : Ref sig .tc := ⟨.hbm, 42, rfl⟩
abbrev main_call4_cst : Ref sig .tc := ⟨.hbm, 43, rfl⟩
abbrev main_call4_c : Ref sig .tc := ⟨.hbm, 44, rfl⟩
abbrev main_call4_v1_0 : Ref sig .tc := ⟨.hbm, 45, rfl⟩
abbrev main_v23 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call6_v0 : Ref sig .tc := ⟨.hbm, 55, rfl⟩
abbrev main_call6_cst : Ref sig .tc := ⟨.hbm, 56, rfl⟩
abbrev main_call6_v1 : Ref sig .tc := ⟨.hbm, 57, rfl⟩
abbrev main_call6_v2 : Ref sig .tc := ⟨.hbm, 58, rfl⟩
abbrev main_v27 : Ref sig .tc := ⟨.hbm, 59, rfl⟩
abbrev main_cst_4 : Ref sig .tc := ⟨.hbm, 60, rfl⟩
abbrev main_call7_v0 : Ref sig .tc := ⟨.hbm, 61, rfl⟩
abbrev main_call7_v1 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call8_v0 : Ref sig .tc := ⟨.hbm, 66, rfl⟩
abbrev main_call8_cst : Ref sig .tc := ⟨.hbm, 67, rfl⟩
abbrev main_call8_v1 : Ref sig .tc := ⟨.hbm, 68, rfl⟩
abbrev main_call8_v2 : Ref sig .tc := ⟨.hbm, 69, rfl⟩
abbrev main_v31 : Ref sig .tc := ⟨.hbm, 70, rfl⟩
abbrev main_cst_5 : Ref sig .tc := ⟨.hbm, 71, rfl⟩
abbrev main_call9_v0 : Ref sig .tc := ⟨.hbm, 72, rfl⟩
abbrev main_call9_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_8 : Ref sig .tc := ⟨.hbm, 85, rfl⟩
abbrev main_v41 : Ref sig .tc := ⟨.hbm, 86, rfl⟩
abbrev main_cst_9 : Ref sig .tc := ⟨.hbm, 87, rfl⟩
abbrev main_v42 : Ref sig .tc := ⟨.hbm, 88, rfl⟩
abbrev main_cst_10 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_11 : Ref sig .tc := ⟨.hbm, 94, rfl⟩
abbrev main_v47 : Ref sig .tc := ⟨.hbm, 95, rfl⟩
abbrev main_cst_12 : Ref sig .tc := ⟨.hbm, 96, rfl⟩
abbrev main_v48 : Ref sig .tc := ⟨.hbm, 97, rfl⟩
abbrev main_v49 : Ref sig .tc := ⟨.hbm, 98, rfl⟩
abbrev main_cst_13 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_14 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩

abbrev nD : Nat := 1
abbrev τ : Topo := Topo.v7x

variable {F : FTy → Type} [FloatOps F]
-- ==== Proof.Body.lean ====
/-
  The kernel body at one grid point, over any float instance: what it leaves in its windows and in its scratch, as
  functions of what it finds there. `kernelRun` is the one theorem the launch uses.
-/
module

public import proofs.«01_k».proof.Proof.Gen.KernelIdeal.Frame
public import proofs.«01_k».proof.Proof.Gen.KernelIdeal.Skeleton
public import Idealize.ShloMosaic.Lib.Tactic
public import Idealize.ShloMosaic.Lib.Tactic.Stretches
public import Idealize.ShloMosaic.Lib.VecWindow
public import Idealize.ShloMosaic.Lib.Pipeline.Kit

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one point computes -/

/-- The point is the grid's first. -/
abbrev first (i : grid0.Coords) : Prop :=
  Scalar.cmpi .ne (Scalar.extui (Scalar.cmpi .eq (BitVec.ofNat 32 (i 0).val) 0#32) : BitVec 32) 0#32 = 1#1

/-- Some row of the block has not exactly one nearest code. -/
abbrev tied (v35 : FVec F S256x8192 .f32) (b : Vec F S8192x128 .bf16) : Prop :=
  Scalar.cmpi .ne (Scalar.extui (Scalar.cmpf .ogt (k0_pay17 v35 b) (FloatOps.ofBits .f32 0x00000000#32)) : BitVec 32) 0#32 = 1#1

/-- The encodings block: the mask of the minima, or the first minimum where a row is tied. -/
def encOf (x : Vec F S256x64 .f32) (xs : Vec F S256x1 .f32) (a : Vec F S8192x64 .bf16) (ws : Vec F S1x8192 .f32)
    (b : Vec F S8192x128 .bf16) : Vec F S256x8192 .f32 :=
  open Classical in if tied (k0_pay14 x xs a ws) b then k0_pay18 (k0_pay9 x xs a ws) (k0_pay10 x xs a ws) else k0_pay12 x xs a ws

/-- The counts after the point. -/
def cntOf (x : Vec F S256x64 .f32) (xs : Vec F S256x1 .f32) (a : Vec F S8192x64 .bf16) (ws : Vec F S1x8192 .f32)
    (b : Vec F S8192x128 .bf16) (n : Vec F S1x8192 .f32) : Vec F S1x8192 .f32 :=
  open Classical in if tied (k0_pay14 x xs a ws) b
    then k0_pay19 (k0_pay9 x xs a ws) (k0_pay10 x xs a ws) (k0_pay11 x xs a ws) (k0_pay13 x xs a ws n) else k0_pay13 x xs a ws n

/-- The block's gathered rows of the extended codebook. -/
def qeOf (x : Vec F S256x64 .f32) (xs : Vec F S256x1 .f32) (a : Vec F S8192x64 .bf16) (ws : Vec F S1x8192 .f32)
    (b : Vec F S8192x128 .bf16) : Vec F S256x128 .f32 :=
  open Classical in if tied (k0_pay14 x xs a ws) b then k0_pay20 (k0_pay9 x xs a ws) (k0_pay10 x xs a ws) b else k0_pay16 (k0_pay14 x xs a ws) b

/-- The first 64 columns of a block of extended rows. -/
abbrev cols (q : Vec F S256x128 .f32) : Vec F S256x64 .f32 :=
  View.ld q (Rect.unit (s := S256x128) ![0, 0] S256x64.size inb_S256x128_S256x64_0_0)

/-- The loss's sum after the point. -/
def lossOf (x : Vec F S256x64 .f32) (q : Vec F S256x128 .f32) (l : Vec F S1x1 .f32) : Vec F S1x1 .f32 :=
  k0_pay1 (k0_pay22 l) (k0_pay23 (k0_pay8 x) (cols q))

/-! ## Loads and stores of a whole buffer -/

section Whole
variable {Val : EltTy → Type} {κ : Kind} {sp : Space} {s : Shape} {e : EltTy} (v : View sig κ sp s e) {off off' : Fin s.rank → ℕ}

/-- A load of the whole shape reads what the view reads. -/
theorem load_all (f : v.ty.Contents Val) (inb : ∀ a, off a + s.size a ≤ s.size a) :
    v.readAt Val (Rect.unit off (no_index s.size) inb).toLoadRect f = v.read Val f := View.readAt_full v f inb

/-- A store of the whole shape leaves its payload. -/
theorem store_all (f : v.ty.Contents Val) (inb : ∀ a, off a + s.size a ≤ s.size a) (w : s.Idx → Val e) (L : List (View.Piece Val s e)) :
    v.read Val (v.writes Val f (⟨Rect.unit off (no_index s.size) inb, w⟩ :: L)) = w := View.read_writes_full v f inb w L

/-- A load of the whole shape after a store of the whole shape reads the payload. -/
theorem load_stored [∀ e, Nonempty (Val e)] (inb : ∀ a, off a + s.size a ≤ s.size a) (inb' : ∀ a, off' a + s.size a ≤ s.size a) (w : s.Idx → Val e) (L : List (View.Piece Val s e)) :
    v.readCov (⟨Rect.unit off' (no_index s.size) inb', w⟩ :: L) (Rect.unit off (no_index s.size) inb).toLoadRect = w :=
  View.readCov_full v inb inb' w L

end Whole

section Run
variable (c : Dev nD) (i : grid0.Coords)
    (M1 : Memref sig .tc .vmem S256x64 .f32) (h1 : M1.IsWhole) (M2 : Memref sig .tc .vmem S256x1 .f32) (h2 : M2.IsWhole)
    (M3 : Memref sig .tc .vmem S8192x64 .f32) (h3 : M3.IsWhole) (M4 : Memref sig .tc .vmem S1x8192 .f32) (h4 : M4.IsWhole)
    (M5 : Memref sig .tc .vmem S8192x64 .f32) (h5 : M5.IsWhole) (M6 : Memref sig .tc .vmem S256x8192 .f32) (h6 : M6.IsWhole)
    (M7 : Memref sig .tc .vmem S256x64 .f32) (h7 : M7.IsWhole) (M8 : Memref sig .tc .vmem S1x1 .f32) (h8 : M8.IsWhole)
    (M9 : Memref sig .tc .vmem S1x1 .f32) (h9 : M9.IsWhole) (M10 : Memref sig .tc .vmem S8192x64 .bf16) (h10 : M10.IsWhole)
    (M11 : Memref sig .tc .vmem S1x8192 .f32) (h11 : M11.IsWhole) (M12 : Memref sig .tc .vmem S8192x128 .bf16) (h12 : M12.IsWhole)
    (M13 : Memref sig .tc .vmem S256x128 .f32) (h13 : M13.IsWhole)

/-- Memref `M` held whole, its elements reading `X`. -/
abbrev holds {sp : Space} {S : Shape} {e : EltTy} (M : Memref sig .tc sp S e) (X : S.Idx → Elt F e) : sProp 𝕄 :=
  owns (c : Thread nD τ) M fullShare X

/-- The first part: at the first point the scratch and the loss are set up; then the distances, their minima and the
    mask are computed, the mask is stored and the counts take its column sums. -/
theorem part1_run (x : Vec F S256x64 .f32) (xs : Vec F S256x1 .f32) (wn : Vec F S8192x64 .f32) (ws : Vec F S1x8192 .f32) (w : Vec F S8192x64 .f32)
    (l l' : Vec F S1x1 .f32) (a a' : Vec F S8192x64 .bf16) (n n' : Vec F S1x8192 .f32) (b b' : Vec F S8192x128 .bf16)
    (hc : (first i ∧ l' = k0_pay7 ∧ a' = k0_pay4 wn ∧ n' = k0_pay6 ∧ b' = k0_pay5 w) ∨ (¬ first i ∧ l' = l ∧ a' = a ∧ n' = n ∧ b' = b))
    (Q : _ → sProp 𝕄) :
    iprop(holds c M1 x ∗ holds c M2 xs ∗ holds c M3 wn ∗ holds c M4 ws ∗ holds c M5 w ∗ (∃ e, holds c M6 e) ∗ holds c M8 l
       ∗ holds c M10 a ∗ holds c M11 n ∗ holds c M12 b
       ∗ (iprop(holds c M1 x ∗ holds c M2 xs ∗ holds c M3 wn ∗ holds c M4 ws ∗ holds c M5 w ∗ holds c M6 (k0_pay12 x xs a' ws) ∗ holds c M8 l'
           ∗ holds c M10 a' ∗ holds c M11 (k0_pay13 x xs a' ws n') ∗ holds c M12 b')
          -∗ Q ⟨BitVec.ofNat 32 (i 0).val, k0_pay8 x, k0_pay9 x xs a' ws, k0_pay10 x xs a' ws, k0_pay11 x xs a' ws, k0_pay14 x xs a' ws⟩))
    ⊢ wp frame (wpE (defs₀ (F := F)) Variants.none c none) Set.univ
        (k0_part1 i M1 h1 M2 h2 M3 h3 M4 h4 M5 h5 M6 h6 M7 h7 M8 h8 M9 h9 M10 h10 M11 h11 M12 h12 M13 h13) Q := by
  rw [k0_part1_eq_skeleton]
  unfold holds owns
  iintro ⟨⟨%f1, %e1, H1⟩, ⟨%f2, %e2, H2⟩, ⟨%f3, %e3, H3⟩, ⟨%f4, %e4, H4⟩, ⟨%f5, %e5, H5⟩, ⟨%e, %f6, %e6, H6⟩, ⟨%f8, %e8, H8⟩, ⟨%f10, %e10, H10⟩, ⟨%f11, %e11, H11⟩, ⟨%f12, %e12, H12⟩, Hk⟩
  subst e1 e2 e3 e4 e5 e8 e10 e11 e12
  rcases hc with ⟨hi, rfl, rfl, rfl, rfl⟩ | ⟨hi, rfl, rfl, rfl, rfl⟩
  all_goals
    sl_exec!
    sl_step
    sl_open_run
    simp only [load_all, load_stored]
    iapply Hk
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; sl_open_run; simp only [store_all, load_all, load_stored]
    isplitl [H8]; · iexists _; isplitr; swap; (· iexact H8); ipureintro; sl_open_run; simp only [store_all, load_all, load_stored]
    isplitl [H10]; · iexists _; isplitr; swap; (· iexact H10); ipureintro; sl_open_run; simp only [store_all, load_all, load_stored]
    isplitl [H11]; · iexists _; isplitr; swap; (· iexact H11); ipureintro; sl_open_run; simp only [store_all, load_all, load_stored]
    iexists _; isplitr; swap; (· iexact H12); ipureintro; sl_open_run; simp only [store_all, load_all, load_stored]

/-- The second part: the extended rows are gathered by the mask; where a row is tied, the encodings, the counts and the
    gathered rows are made again from the first minimum; the normalised rows are stored. -/
theorem part2_run (v4 : FVec F S256x64 .f32) (v17 : FVec F S256x8192 .f32) (v19 : FVec F S256x1 .f32) (v21 : IVec S256x8192 1) (v35 : FVec F S256x8192 .f32)
    (e e' : Vec F S256x8192 .f32) (l : Vec F S1x1 .f32) (n n' : Vec F S1x8192 .f32) (b : Vec F S8192x128 .bf16) (q : Vec F S256x128 .f32)
    (hc : (tied v35 b ∧ e' = k0_pay18 v17 v19 ∧ n' = k0_pay19 v17 v19 v21 n ∧ q = k0_pay20 v17 v19 b) ∨ (¬ tied v35 b ∧ e' = e ∧ n' = n ∧ q = k0_pay16 v35 b))
    (Q : _ → sProp 𝕄) :
    iprop(holds c M6 e ∗ (∃ y, holds c M7 y) ∗ holds c M8 l ∗ holds c M11 n ∗ holds c M12 b ∗ (∃ y, holds c M13 y)
       ∗ (iprop(holds c M6 e' ∗ holds c M7 (k0_pay21 (cols q)) ∗ holds c M8 l ∗ holds c M11 n' ∗ holds c M12 b ∗ holds c M13 q)
          -∗ Q ⟨k0_pay22 l, k0_pay23 v4 (cols q)⟩))
    ⊢ wp frame (wpE (defs₀ (F := F)) Variants.none c none) Set.univ
        (k0_part2 i M1 h1 M2 h2 M3 h3 M4 h4 M5 h5 M6 h6 M7 h7 M8 h8 M9 h9 M10 h10 M11 h11 M12 h12 M13 h13 v4 v17 v19 v21 v35) Q := by
  rw [k0_part2_eq_skeleton]
  unfold holds owns
  iintro ⟨⟨%f6, %e6, H6⟩, ⟨%y7, %f7, %e7, H7⟩, ⟨%f8, %e8, H8⟩, ⟨%f11, %e11, H11⟩, ⟨%f12, %e12, H12⟩, ⟨%y13, %f13, %e13, H13⟩, Hk⟩
  subst e6 e8 e11 e12
  sl_exec!
  sl_step
  sl_open_run
  simp only [load_all, load_stored]
  rcases hc with ⟨hi, rfl, rfl, rfl⟩ | ⟨hi, rfl, rfl, rfl⟩
  all_goals
    simp only [hi, ↓reduceDIte, not_false_eq_true, store_all, View.readAt_eq_ld]
    iapply Hk
    isplitl [H6]; · iexists _; isplitr; swap; (· iexact H6); ipureintro; simp only [store_all]
    isplitl [H7]; · iexists _; isplitr; swap; (· iexact H7); ipureintro; simp only [store_all]
    isplitl [H8]; · iexists _; isplitr; swap; (· iexact H8); ipureintro; rfl
    isplitl [H11]; · iexists _; isplitr; swap; (· iexact H11); ipureintro; simp only [store_all]
    isplitl [H12]; · iexists _; isplitr; swap; (· iexact H12); ipureintro; rfl
    iexists _; isplitr; swap; (· iexact H13); ipureintro; simp only [store_all]

/-- The whole body at one point: the windows 0 to 4 are left as they were, the others and the scratch at the functions
    above, the loss at the last point scaled to its mean, the perplexity written at the last point only. -/
theorem kernelRun (x : Vec F S256x64 .f32) (xs : Vec F S256x1 .f32) (wn : Vec F S8192x64 .f32) (ws : Vec F S1x8192 .f32) (w : Vec F S8192x64 .f32)
    (l l' l'' : Vec F S1x1 .f32) (p p' : Vec F S1x1 .f32) (a a' : Vec F S8192x64 .bf16) (n n' : Vec F S1x8192 .f32) (b b' : Vec F S8192x128 .bf16)
    (hc : (first i ∧ l' = k0_pay7 ∧ a' = k0_pay4 wn ∧ n' = k0_pay6 ∧ b' = k0_pay5 w) ∨ (¬ first i ∧ l' = l ∧ a' = a ∧ n' = n ∧ b' = b))
    (hl : (k0_cond3 i = 1#1 ∧ l'' = k0_pay2 (lossOf x (qeOf x xs a' ws b') l') ∧ p' = k0_pay3 (cntOf x xs a' ws b' n'))
      ∨ (¬ k0_cond3 i = 1#1 ∧ l'' = lossOf x (qeOf x xs a' ws b') l' ∧ p' = p))
    (Q : PUnit → sProp 𝕄) :
    iprop(holds c M1 x ∗ holds c M2 xs ∗ holds c M3 wn ∗ holds c M4 ws ∗ holds c M5 w ∗ (∃ e, holds c M6 e) ∗ (∃ y, holds c M7 y) ∗ holds c M8 l
       ∗ holds c M9 p ∗ holds c M10 a ∗ holds c M11 n ∗ holds c M12 b ∗ (∃ y, holds c M13 y)
       ∗ (iprop(holds c M1 x ∗ holds c M2 xs ∗ holds c M3 wn ∗ holds c M4 ws ∗ holds c M5 w ∗ holds c M6 (encOf x xs a' ws b')
           ∗ holds c M7 (k0_pay21 (cols (qeOf x xs a' ws b'))) ∗ holds c M8 l'' ∗ holds c M9 p'
           ∗ holds c M10 a' ∗ holds c M11 (cntOf x xs a' ws b' n') ∗ holds c M12 b' ∗ (∃ y, holds c M13 y))
          -∗ Q ⟨⟩))
    ⊢ wp frame (wpE (defs₀ (F := F)) Variants.none c none) Set.univ
        (cc0__vq_kernel i M1 h1 M2 h2 M3 h3 M4 h4 M5 h5 M6 h6 M7 h7 M8 h8 M9 h9 M10 h10 M11 h11 M12 h12 M13 h13) Q := by
  rw [cc0__vq_kernel_eq_skeleton]
  unfold cc0__vq_kernel_skel
  rw [wp_bind]
  iintro ⟨H1, H2, H3, H4, H5, H6, H7, H8, H9, H10, H11, H12, H13, Hk⟩
  iapply (part1_run c i M1 h1 M2 h2 M3 h3 M4 h4 M5 h5 M6 h6 M7 h7 M8 h8 M9 h9 M10 h10 M11 h11 M12 h12 M13 h13 x xs wn ws w l l' a a' n n' b b' hc)
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H10]; · iexact H10
  isplitl [H11]; · iexact H11
  isplitl [H12]; · iexact H12
  iintro ⟨H1, H2, H3, H4, H5, H6, H8, H10, H11, H12⟩
  dsimp only
  rw [wp_bind]
  iapply (part2_run c i M1 h1 M2 h2 M3 h3 M4 h4 M5 h5 M6 h6 M7 h7 M8 h8 M9 h9 M10 h10 M11 h11 M12 h12 M13 h13
    (k0_pay8 x) (k0_pay9 x xs a' ws) (k0_pay10 x xs a' ws) (k0_pay11 x xs a' ws) (k0_pay14 x xs a' ws)
    (k0_pay12 x xs a' ws) (encOf x xs a' ws b') l' (k0_pay13 x xs a' ws n') (cntOf x xs a' ws b' n') b' (qeOf x xs a' ws b')
    (by
      unfold encOf cntOf qeOf
      by_cases h : tied (k0_pay14 x xs a' ws) b'
      · exact .inl ⟨h, if_pos h, if_pos h, if_pos h⟩
      · exact .inr ⟨h, if_neg h, if_neg h, if_neg h⟩))
  isplitl [H6]; · iexact H6
  isplitl [H7]; · iexact H7
  isplitl [H8]; · iexact H8
  isplitl [H11]; · iexact H11
  isplitl [H12]; · iexact H12
  isplitl [H13]; · iexact H13
  iintro ⟨H6, H7, H8, H11, H12, H13⟩
  unfold holds owns
  icases H8 with ⟨%f8, %e8, H8⟩
  icases H9 with ⟨%f9, %e9, H9⟩
  icases H11 with ⟨%f11, %e11, H11⟩
  subst e8 e9
  generalize hn : cntOf x xs a' ws b' n' = cn at *
  subst e11
  rcases hl with ⟨hi, rfl, rfl⟩ | ⟨hi, rfl, rfl⟩
  all_goals
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; isplitr; swap; (· iexact H8); ipureintro; sl_open_run; simp only [store_all, load_all, load_stored]; rfl
    isplitl [H9]; · iexists _; isplitr; swap; (· iexact H9); ipureintro; sl_open_run; simp only [store_all, load_all, load_stored]
    isplitl [H10]; · iexact H10
    isplitl [H11]; · iexists _; isplitr; swap; (· iexact H11); ipureintro; rfl
    isplitl [H12]; · iexact H12
    iexists _; iexact H13

end Run
end Cert.KernelIdeal.Body
-- ==== Proof.Run.lean ====
/-
  The run of the whole program, over any float instance: the values the grid carries from point to point, the
  pipeline's proof data, the body obligation from `Body.kernelRun`, and the launch.
-/
module

public import proofs.«01_k».proof.Proof.Body
public import Idealize.ShloMosaic.Lib.Pipeline.FrameSuffix
public import Idealize.ShloMosaic.Lib.Claim

@[expose] public section

noncomputable section

namespace Cert.KernelIdeal.Run

open Cert.KernelIdeal Cert.KernelIdeal.Gen Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid carries -/

/-- The grid's first point, -/
abbrev pt0 : Fin cfg0.N := ⟨0, by decide⟩
/-- and its `k`-th (counted round the grid, so that the recursions below run over the naturals). -/
abbrev pt (k : ℕ) : Fin cfg0.N := ⟨k % cfg0.N, Nat.mod_lt _ (by decide)⟩

/-- A point is the one its position names. -/
theorem pt_val (t : Fin cfg0.N) : pt t.val = t := Fin.ext (Nat.mod_eq_of_lt t.isLt)

/-- The normalised codebook as the first point keeps it. -/
abbrev wnb (c : Dev nD) : Vec F S8192x64 .bf16 := k0_pay4 (iblk m c 2 pt0)
/-- The extended codebook as the first point keeps it. -/
abbrev wext (c : Dev nD) : Vec F S8192x128 .bf16 := k0_pay5 (iblk m c 4 pt0)

/-- The gathered rows at a point. -/
abbrev qeAt (c : Dev nD) (t : Fin cfg0.N) : Vec F S256x128 .f32 :=
  qeOf (iblk m c 0 t) (iblk m c 1 t) (wnb m c) (iblk m c 3 t) (wext m c)

/-- The counts after `k` points. -/
def cntAt (c : Dev nD) : ℕ → Vec F S1x8192 .f32
  | 0 => k0_pay6
  | k + 1 => cntOf (iblk m c 0 (pt k)) (iblk m c 1 (pt k)) (wnb m c) (iblk m c 3 (pt k)) (wext m c) (cntAt c k)

/-- The loss's sum after `k` points. -/
def lossAt (c : Dev nD) : ℕ → Vec F S1x1 .f32
  | 0 => k0_pay7
  | k + 1 => lossOf (iblk m c 0 (pt k)) (qeAt m c (pt k)) (lossAt c k)

/-- The loss's staging buffer after the body at `t`. -/
def lossOut (c : Dev nD) (t : Fin cfg0.N) : Vec F S1x1 .f32 :=
  if t.val = 35 then k0_pay2 (lossAt m c (t.val + 1)) else lossAt m c (t.val + 1)

/-- The scratch between points: after the first, the two codebooks as kept and the counts so far. -/
def carried (c : Dev nD) (k : ℕ) : sProp 𝕄 :=
  iprop((∃ a n b, ⌜k ≠ 0 → a = wnb m c ∧ n = cntAt m c k ∧ b = wext m c⌝ ∗ holds c (Memref.whole cc0_scratch0) a ∗ holds c (Memref.whole cc0_scratch1) n
      ∗ holds c (Memref.whole cc0_scratch2) b) ∗ (∃ y, holds c (Memref.whole cc0_scratch3) y) ∗ ∃ r, prngReg c r)

/-! ## The pipeline's proof data -/

/-- The proof data: the arrays as the region finds them; after the body each input's block, the encodings and the
    quantised rows of the block, the loss's sum, the perplexity of all the counts; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => encOf (iblk m c 0 t) (iblk m c 1 t) (wnb m c) (iblk m c 3 t) (wext m c)
    | ⟨6, _⟩ => k0_pay21 (cols (qeAt m c t))
    | ⟨7, _⟩ => lossOut m c t
    | ⟨8, _⟩ => k0_pay3 (cntAt m c 36)
  Φ t := carried m c t.val
  q _ := fullShare
  owed _ := 0

/-- The arrays are what the region finds. -/
theorem A_eq (c : Dev nD) (w : Fin cfg0.W) : (dats m 0 c).A w = V m c (Pipeline.arrRef spec0 w) := by
  dsimp only [dats]

/-! ## The grid's two special points -/

/-- The first branch is taken at point 0, -/
theorem first_iff : ∀ t : Fin cfg0.N, first (grid0.coords t) ↔ t.val = 0 := by decide
/-- and the last at point 35. -/
theorem last_iff : ∀ t : Fin cfg0.N, k0_cond3 (grid0.coords t) = 1#1 ↔ t.val = 35 := by decide

/-- The loss's buffer before a later point holds what the point before left. -/
theorem before7 (c : Dev nD) (t : Fin cfg0.N) (h : t.val ≠ 0) (d) : (dats m 0 c).before 7 t d = lossAt m c t.val := by
  have hlt : t.val < 36 := t.isLt
  rw [(dats m 0 c).before_out_kept 7 rfl t h ((Bool.eq_false_iff).mpr (fun hf => by
    have := (flush0_7 _).mp hf; dsimp only at this; omega)) (fun _ => rfl) (fun _ _ => rfl)]
  dsimp only [dats]
  unfold lossOut
  rw [if_neg (by dsimp only; omega)]
  dsimp only
  rw [Nat.sub_add_cancel (by omega)]

/-! ## The body obligation -/

/-- The counts, one point on. -/
theorem cntAt_succ (c : Dev nD) (t : Fin cfg0.N) :
    cntAt m c (t.val + 1) = cntOf (iblk m c 0 t) (iblk m c 1 t) (wnb m c) (iblk m c 3 t) (wext m c) (cntAt m c t.val) := by
  rw [cntAt, pt_val]

/-- The loss's sum, one point on. -/
theorem lossAt_succ (c : Dev nD) (t : Fin cfg0.N) :
    lossAt m c (t.val + 1) = lossOf (iblk m c 0 t) (qeAt m c t) (lossAt m c t.val) := by
  rw [lossAt, pt_val]

/-- The perplexity's buffer is handed back as found before the last point, at the perplexity there. -/
theorem leave8 (c : Dev nD) (t : Fin cfg0.N) (d p' : Vec F S1x1 .f32)
    (h : (t.val = 35 ∧ p' = (dats m 0 c).after 8 t) ∨ (t.val ≠ 35 ∧ p' = (dats m 0 c).before 8 t d)) :
    (holds c (st0_8 t) p' : sProp 𝕄) ⊢
      match idle0 8 (grid0.coords t) with
      | true =>
        match (win0 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t) := by
  have hlt : t.val < 36 := t.isLt
  rcases h with ⟨h, rfl⟩ | ⟨h, rfl⟩
  · have : idle0 8 (grid0.coords t) = false := by simp only [idle0, (last_iff t).mpr h]; rfl
    rw [this]
  · have h1 : idle0 8 (grid0.coords t) = true := by
      have := mt (last_iff t).mp h
      simp only [idle0, Bool.not_eq_true', beq_eq_false_iff_ne]; exact this
    have h2 : (win0 8).flush t = false := (Bool.eq_false_iff).mpr (fun hf => by
      have := (flush0_8 t).mp hf; omega)
    rw [h1, h2]
    iintro H; iexists d; iexact H

set_option maxHeartbeats 1000000 in
/-- The library's body obligation: the buffers taken apart, `kernelRun` applied, its post put together again. -/
theorem body_obligation (c : Dev nD) : BodyObligation (dats m 0 c) (defs₀ (F := F)) Variants.none () Set.univ := fun t => by
  have hlt : t.val < 36 := t.isLt
  rw [bigSep_W0, bigSep_W0]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  dsimp only
  unfold carried
  iintro ⟨⟨⟨%a, %n, %b, %hab, Ha, Hn, Hb⟩, Hy, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) rfl (fun _ => rfl), before0_1_of m (dats m 0 c) rfl (fun _ => rfl), before0_2_of m (dats m 0 c) rfl (fun _ => rfl),
    before0_3_of m (dats m 0 c) rfl (fun _ => rfl), before0_4_of m (dats m 0 c) rfl (fun _ => rfl)]
  have hp : ∃ p', (t.val = 35 ∧ p' = (dats m 0 c).after 8 t) ∨ (t.val ≠ 35 ∧ p' = (dats m 0 c).before 8 t d8) := by
    by_cases h : t.val = 35
    · exact ⟨_, .inl ⟨h, rfl⟩⟩
    · exact ⟨_, .inr ⟨h, rfl⟩⟩
  obtain ⟨p', hp⟩ := hp
  have hc : (first (grid0.coords t) ∧ lossAt m c t.val = k0_pay7 ∧ wnb m c = k0_pay4 (iblk m c 2 t) ∧ cntAt m c t.val = k0_pay6 ∧ wext m c = k0_pay5 (iblk m c 4 t))
      ∨ (¬ first (grid0.coords t) ∧ lossAt m c t.val = (dats m 0 c).before 7 t d7 ∧ wnb m c = a ∧ cntAt m c t.val = n ∧ wext m c = b) := by
    by_cases h : t.val = 0
    · obtain rfl : t = pt0 := Fin.ext h
      exact .inl ⟨(first_iff _).mpr h, rfl, rfl, rfl, rfl⟩
    · obtain ⟨ha, hn, hb⟩ := hab h
      exact .inr ⟨mt (first_iff t).mp h, (before7 m c t h d7).symm, ha.symm, hn.symm, hb.symm⟩
  have hl : (k0_cond3 (grid0.coords t) = 1#1 ∧ lossOut m c t = k0_pay2 (lossOf (iblk m c 0 t) (qeAt m c t) (lossAt m c t.val))
        ∧ p' = k0_pay3 (cntOf (iblk m c 0 t) (iblk m c 1 t) (wnb m c) (iblk m c 3 t) (wext m c) (cntAt m c t.val)))
      ∨ (¬ k0_cond3 (grid0.coords t) = 1#1 ∧ lossOut m c t = lossOf (iblk m c 0 t) (qeAt m c t) (lossAt m c t.val) ∧ p' = (dats m 0 c).before 8 t d8) := by
    unfold lossOut
    rw [lossAt_succ, ← cntAt_succ]
    rcases hp with ⟨h, hp⟩ | ⟨h, hp⟩
    · exact .inl ⟨(last_iff t).mpr h, if_pos h, by rw [hp, h]; rfl⟩
    · exact .inr ⟨mt (last_iff t).mp h, if_neg h, hp⟩
  iapply (kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) ((dats m 0 c).before 7 t d7) (lossAt m c t.val) (lossOut m c t)
    ((dats m 0 c).before 8 t d8) p' a (wnb m c) n (cntAt m c t.val) b (wext m c) hc hl)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [Ha]; · iexact Ha
  isplitl [Hn]; · iexact Hn
  isplitl [Hb]; · iexact Hb
  isplitl [Hy]; · iexact Hy
  iintro ⟨H0, H1, H2, H3, H4, H5, H6, H7, H8, Ha, Hn, Hb, Hy⟩
  isplitl [Ha Hn Hb Hy Hr]
  · isplitl [Ha Hn Hb]
    · iexists _; iexists _; iexists _
      isplitr; swap
      · isplitl [Ha]; · iexact Ha
        isplitl [Hn]; · iexact Hn
        iexact Hb
      ipureintro
      exact fun _ => ⟨rfl, (cntAt_succ m c t).symm, rfl⟩
    isplitl [Hy]; · iexact Hy
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leave8 m c t d8 p' hp)
  iexact H8

/-! ## The launch -/

/-- The scratch at anything is what the grid starts from, -/
theorem enter (c : Dev nD) : (Pipeline.ΦA spec0 c : sProp 𝕄) ⊢ (dats m 0 c).Φ 0 := by
  rw [show (dats m 0 c).Φ 0 = carried m c 0 from rfl]
  unfold Pipeline.ΦA carried holds
  rw [scopedRest0_eq]
  simp only [owns_whole_eq]
  iintro ⟨⟨⟨%a, Ha⟩, ⟨%n, Hn⟩, ⟨%b, Hb⟩, ⟨%y, Hy⟩⟩, Hr⟩
  isplitl [Ha Hn Hb]
  · iexists a; iexists n; iexists b
    isplitr; · ipureintro; exact fun h => absurd rfl h
    isplitl [Ha]; · iexists a; isplitr; · ipureintro; rfl
                    iexact Ha
    isplitl [Hn]; · iexists n; isplitr; · ipureintro; rfl
                    iexact Hn
    iexists b; isplitr; · ipureintro; rfl
    iexact Hb
  isplitl [Hy]; · iexists y; iexists y; isplitr; · ipureintro; rfl
                  iexact Hy
  iexact Hr

/-- and what it ends with. -/
theorem leave (c : Dev nD) : (dats m 0 c).Φ (Fin.last cfg0.N) ⊢ (Pipeline.ΦA spec0 c : sProp 𝕄) := by
  rw [show (dats m 0 c).Φ (Fin.last cfg0.N) = carried m c (Fin.last cfg0.N).val from rfl]
  unfold Pipeline.ΦA carried holds
  rw [scopedRest0_eq]
  simp only [owns_whole_eq]
  iintro ⟨⟨%a, %n, %b, -, ⟨%fa, -, Ha⟩, ⟨%fn, -, Hn⟩, ⟨%fb, -, Hb⟩⟩, ⟨%y, %fy, -, Hy⟩, Hr⟩
  isplitr [Hr]; swap; · iexact Hr
  isplitl [Ha]; · iexists fa; iexact Ha
  isplitl [Hn]; · iexists fn; iexact Hn
  isplitl [Hb]; · iexists fb; iexact Hb
  iexists fy; iexact Hy

/-- What the launch leaves: the windows' arrays and the other buffers as the library computes them. -/
abbrev Post (r : PUnit × MemSt nD τ sig (Elt F)) : Prop :=
  Pipeline.FramePost cfgs (dats m) 0 (Pipeline.afterTail₀ cfgs (dats m) 0 (V0 m) [hostOps1]) r

set_option backward.isDefEq.respectTransparency.types false in
/-- From any memory with zero counters every weakly fair execution of @main ends, with the arrays as computed and every
    counter at zero. -/
theorem run_main : θ_run defs (onTc (τ := τ) (main (F := F))) (s₀ m ρ) (fun r => Post m r ∧ r.2.sem = fun _ => 0) :=
  Pipeline.θ_run_frame_around_track cfgs (dats m) 0 launch0 defs₀ Variants.none m ρ main (fun c => (body_obligation m c).loose)
    (fun c => (dats m 0 c).share_full fun _ => rfl) (fun _ _ => rfl) (V0 m) [hostOps1] sfx_sub sfx_fresh sfx_keeps (hmain m Variants.none)
    (A_eq m) (enter m) (leave m) _ (fun _ h => h)

/-- The claim's frame, with every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) (θ_run_mono (run_main m ρ) fun _ h => h.1)) (θ_run_mono (run_main m ρ) fun _ h => h.2)

end Cert.KernelIdeal.Run
-- ==== Proof.Twin.lean ====
/-
  The program as printed for bits and the program as printed for the ideal floats are one text in two namespaces, so the
  run of the second, proved at any float instance, is the run of the first.
-/
module

public import proofs.«01_k».proof.Proof.Run
public import proofs.«01_k».proof.Defs
public import proofs.«01_k».proof.Proof.Gen.Kernel
public import Idealize.ShloMosaic.Lib.Tactic

@[expose] public section

noncomputable section

namespace Cert.Proof

open Idealize.ShloMosaic Idealize.SL.Sem
open Idealize.ShloMosaic.Tactic

/-- The two statements of the frame are one. -/
theorem twin : quiescent_Kernel (hKernel := Cert.Kernel.Gen.facts) = ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by sl_kernel_rfl

/-- The frame of the program at bits. -/
theorem quiescentKernel : quiescent_Kernel (hKernel := Cert.Kernel.Gen.facts) := by
  rw [twin]
  exact fun m g _ => Cert.KernelIdeal.Run.quiescent (F := Bits) m g

/-- The frame of the program at ideal floats. -/
theorem quiescentKernelIdeal : quiescent_KernelIdeal (hKernelIdeal := Cert.KernelIdeal.Gen.facts) :=
  fun m g _ => Cert.KernelIdeal.Run.quiescent (F := Ideal) m g

end Cert.Proof
-- ==== Proof.Stages.lean ====
/-
  The reference in stages: what each of its intermediate tensors is as a function of the two arguments, over any float
  instance. The reference's own run ends at these, and the kernel's host part is a prefix of them.
-/
module

public import proofs.«01_k».proof.Proof.Gen.ReferenceIdeal

@[expose] public section

noncomputable section

namespace Cert.Stages

open Cert.ReferenceIdeal Cert.ReferenceIdeal.Gen
open Idealize.ShloMosaic

variable {F : FTy → Type} [FloatOps F]

/-- The embeddings as 9216 rows. -/
def rows (a : FVec F S16x576x64 .f32) : FVec F S9216x64 .f32 := shapeCast S9216x64 a shapeCasts_S16x576x64_S9216x64

/-- Each of the 9216 rows over its clipped length. -/
def unitRows (x : FVec F S9216x64 .f32) : FVec F S9216x64 .f32 :=
  Host.divf x (broadcastInDim S9216x64 ![0, 1] bcast_S9216x1_S9216x64_0_1
    (maximumf (broadcastInDim S9216x1 ![] bcast_S_S9216x1 (id (constant (F := F) S_ .f32 0x2B8CBCCC#32)))
      (Host.sqrt (broadcastInDim S9216x1 ![0] bcast_S9216_S9216x1_0
        (Host.reduceAdd (mulf x x) (constant (F := F) S_ .f32 0x00000000#32) reducesTo_S9216x64_S9216_d1 h_S_)))))

/-- Each of the 8192 codebook rows over its clipped length. -/
def unitCodes (w : FVec F S8192x64 .f32) : FVec F S8192x64 .f32 :=
  Host.divf w (broadcastInDim S8192x64 ![0, 1] bcast_S8192x1_S8192x64_0_1
    (maximumf (broadcastInDim S8192x1 ![] bcast_S_S8192x1 (id (constant (F := F) S_ .f32 0x2B8CBCCC#32)))
      (Host.sqrt (broadcastInDim S8192x1 ![0] bcast_S8192_S8192x1_0
        (Host.reduceAdd (mulf w w) (constant (F := F) S_ .f32 0x00000000#32) reducesTo_S8192x64_S8192_d1 h_S_)))))

/-- Each of the 16 × 576 vectors over its clipped length. -/
def unitGrid (x : FVec F S16x576x64 .f32) : FVec F S16x576x64 .f32 :=
  Host.divf x (broadcastInDim S16x576x64 ![0, 1, 2] bcast_S16x576x1_S16x576x64_0_1_2
    (maximumf (broadcastInDim S16x576x1 ![] bcast_S_S16x576x1 (id (constant (F := F) S_ .f32 0x2B8CBCCC#32)))
      (Host.sqrt (broadcastInDim S16x576x1 ![0, 1] bcast_S16x576_S16x576x1_0_1
        (Host.reduceAdd (mulf x x) (constant (F := F) S_ .f32 0x00000000#32) reducesTo_S16x576x64_S16x576_d2 h_S_)))))

/-- The squared length of each row, as a column. -/
def rowSq (x : FVec F S9216x64 .f32) : FVec F S9216x1 .f32 :=
  broadcastInDim S9216x1 ![0] bcast_S9216_S9216x1_0
    (Host.reduceAdd (mulf x x) (constant (F := F) S_ .f32 0x00000000#32) reducesTo_S9216x64_S9216_d1 h_S_)

/-- The squared length of each codebook row, as a row. -/
def codeSq (w : FVec F S8192x64 .f32) : FVec F S1x8192 .f32 :=
  broadcastInDim S1x8192 ![1] bcast_S8192_S1x8192_1
    (Host.reduceAdd (mulf w w) (constant (F := F) S_ .f32 0x00000000#32) reducesTo_S8192x64_S8192_d1 h_S_)

/-- The squared distances, from rows and codes already normalised. -/
def dist (x : FVec F S9216x64 .f32) (w : FVec F S8192x64 .f32) : FVec F S9216x8192 .f32 :=
  subf (addf (broadcastInDim S9216x8192 ![0, 1] bcast_S9216x1_S9216x8192_0_1 (rowSq x))
      (broadcastInDim S9216x8192 ![0, 1] bcast_S1x8192_S9216x8192_0_1 (codeSq w)))
    (mulf (broadcastInDim S9216x8192 ![] bcast_S_S9216x8192 (constant (F := F) S_ .f32 0x40000000#32))
      (Host.dotGeneral dot_S9216x64_S64x8192_S9216x8192_1_0_0_1_n_n none x
        (transpose S64x8192 [1, 0] w transposes_S8192x64_S64x8192_1_0)))

/-- Each row's least distance with its position. -/
def pairs (d : FVec F S9216x8192 .f32) : S9216.Idx → F .f32 × BitVec 32 :=
  Host.argReduce reducer_argmin_f32_i32 d (iotaInDim S9216x8192 32 1) (constant (F := F) S_ .f32 0x7F800000#32)
    (constantI S_ 32 0#32) reducesTo_S9216x8192_S9216_d1 h_S_

/-- The second entries of a family of pairs. -/
def seconds (f : S9216.Idx → F .f32 × BitVec 32) : IVec S9216 32 := fun j => (f j).2

/-- The position of each row's least distance, as a word. -/
def nearest (d : FVec F S9216x8192 .f32) : IVec S9216 32 := seconds (pairs d)

/-- The one-hot rows of the positions. -/
def oneHot (i : IVec S9216 32) : FVec F S9216x8192 .f32 :=
  uitofp .f32 (cmpi .eq
    (broadcastInDim S9216x8192 ![0, 1] bcast_S9216x1_S9216x8192_0_1 (broadcastInDim S9216x1 ![0] bcast_S9216_S9216x1_0 i))
    (broadcastInDim S9216x8192 ![0, 1] bcast_S1x8192_S9216x8192_0_1 (iotaInDim S1x8192 32 1)))

/-- The one-hot rows times the codebook. -/
def picked (e : FVec F S9216x8192 .f32) (w : FVec F S8192x64 .f32) : FVec F S9216x64 .f32 :=
  Host.dotGeneral dot_S9216x8192_S8192x64_S9216x64_1_0_0_1_n_n none e w

/-- Rows laid out on the 16 × 576 grid. -/
def grid (q : FVec F S9216x64 .f32) : FVec F S16x576x64 .f32 := shapeCast S16x576x64 q shapeCasts_S9216x64_S16x576x64

/-- The mean squared difference. -/
def meanSq (q x : FVec F S16x576x64 .f32) : FVec F S_ .f32 :=
  Host.divf (Host.reduceAdd (mulf (subf q x) (subf q x)) (constant (F := F) S_ .f32 0x00000000#32)
    reducesTo_S16x576x64_S_d0_1_2 h_S_) (constant (F := F) S_ .f32 0x49100000#32)

/-- The loss: the mean squared difference and a quarter of it again. -/
def lossOf (q x : FVec F S16x576x64 .f32) : FVec F S_ .f32 :=
  addf (meanSq q x) (mulf (constant (F := F) S_ .f32 0x3E800000#32) (meanSq q x))

/-- The embeddings moved by the difference. -/
def moved (q x : FVec F S16x576x64 .f32) : FVec F S16x576x64 .f32 := addf x (subf q x)

/-- How often each code is picked, over the number of rows. -/
def usage (e : FVec F S9216x8192 .f32) : FVec F S8192 .f32 :=
  Host.divf (Host.reduceAdd e (constant (F := F) S_ .f32 0x00000000#32) reducesTo_S9216x8192_S8192_d0 h_S_)
    (broadcastInDim S8192 ![] bcast_S_S8192 (constant (F := F) S_ .f32 0x46100000#32))

/-- The perplexity of the usage. -/
def perplexityOf (p : FVec F S8192 .f32) : FVec F S_ .f32 :=
  Host.exp (Host.negf (Host.reduceAdd (mulf p (Host.log (addf p
      (broadcastInDim S8192 ![] bcast_S_S8192 (constant (F := F) S_ .f32 0x2EDBE6FF#32)))))
    (constant (F := F) S_ .f32 0x00000000#32) reducesTo_S8192_S_d0 h_S_))

/-- The fourth result: the one-hot codes of the arguments. -/
def codes (a : FVec F S16x576x64 .f32) (w : FVec F S8192x64 .f32) : FVec F S9216x8192 .f32 :=
  oneHot (nearest (dist (unitRows (rows a)) (unitCodes w)))

/-- The normalised picked codes, on the grid. -/
def quantized (a : FVec F S16x576x64 .f32) (w : FVec F S8192x64 .f32) : FVec F S16x576x64 .f32 :=
  unitGrid (grid (picked (codes a w) w))

/-- The first result. -/
def quantizedOut (a : FVec F S16x576x64 .f32) (w : FVec F S8192x64 .f32) : FVec F S16x576x64 .f32 :=
  moved (quantized a w) (unitGrid a)

/-- The second result. -/
def loss (a : FVec F S16x576x64 .f32) (w : FVec F S8192x64 .f32) : FVec F S_ .f32 :=
  lossOf (quantized a w) (unitGrid a)

/-- The third result. -/
def perplexity (a : FVec F S16x576x64 .f32) (w : FVec F S8192x64 .f32) : FVec F S_ .f32 :=
  perplexityOf (usage (codes a w))

end Cert.Stages
-- ==== Proof.RefRun.lean ====
/-
  The run of the reference, over any float instance: its four results are the stages of `Stages`, its arguments stay.
-/
module

public import proofs.«01_k».proof.Proof.Stages
public import proofs.«01_k».proof.Defs
public import Idealize.ShloMosaic.Lib.Claim
public import Idealize.ShloMosaic.Lib.Tactic

@[expose] public section

noncomputable section

namespace Cert.ReferenceIdeal.Value

open Cert.ReferenceIdeal Cert.ReferenceIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program has no counter, so any counters are zero. -/
theorem sems (s : MemSt nD τ sig (Elt F)) : s.sem = fun _ => 0 := by
  funext g
  exact (nomatch g)

/-- The first argument on a device. -/
def arg0 (c : Dev nD) : FVec F S16x576x64 .f32 := m ((c.tc : Thread nD τ).loc main_arg0)

/-- The second argument on a device. -/
def arg1 (c : Dev nD) : FVec F S8192x64 .f32 := m ((c.tc : Thread nD τ).loc main_arg1)

set_option maxHeartbeats 4000000 in
/-- The reference run: each result is its stage, the arguments stay. -/
theorem run : θ_run (defs (F := F)) (onTc (τ := τ) (main (F := F))) ⟨m, fun _ => 0, ρ⟩ (fun r => (∀ c : Dev nD,
      r.2.mem ((c.tc : Thread nD τ).loc main_v46) = Stages.quantizedOut (arg0 m c) (arg1 m c) ∧
      r.2.mem ((c.tc : Thread nD τ).loc main_v44) = Stages.loss (arg0 m c) (arg1 m c) ∧
      r.2.mem ((c.tc : Thread nD τ).loc main_v56) = Stages.perplexity (arg0 m c) (arg1 m c) ∧
      r.2.mem ((c.tc : Thread nD τ).loc main_v24) = Stages.codes (arg0 m c) (arg1 m c) ∧
      r.2.mem ((c.tc : Thread nD τ).loc main_arg0) = m ((c.tc : Thread nD τ).loc main_arg0) ∧
      r.2.mem ((c.tc : Thread nD τ).loc main_arg1) = m ((c.tc : Thread nD τ).loc main_arg1))) := by
  hlo_run
  all_goals simp only [StableHlo.TRef.ofBuf_toBuf]
  all_goals simp only [StableHlo.TRef.toBuf, StableHlo.TRef.ofBuf, cast_eq]
  all_goals rfl

/-- The frame of the reference. -/
theorem quiescentReferenceIdeal : quiescent_ReferenceIdeal (hReferenceIdeal := Cert.ReferenceIdeal.Gen.facts) :=
  fun m g _ => θ_run_mono (run (F := Ideal) m g) fun r h =>
    ⟨fun c => ⟨(h c).2.2.2.2.1, (h c).2.2.2.2.2⟩, sems r.2⟩

end Cert.ReferenceIdeal.Value
-- ==== Proof.Entry.lean ====
/-
  What the kernel's region finds in its arrays: the host's lines before it leave the stages of the reference there.
-/
module

public import proofs.«01_k».proof.Proof.Stages
public import proofs.«01_k».proof.Proof.Gen.KernelIdeal.Frame
public import Idealize.ShloMosaic.Lib.Claim
public import Idealize.ShloMosaic.Lib.StableHlo.RunRead

@[expose] public section

noncomputable section

namespace Cert.KernelIdeal.Entry

open Cert.KernelIdeal Cert.KernelIdeal.Gen
open Idealize.ShloMosaic Idealize.ShloMosaic.TcCoe

variable {F : FTy → Type} [FloatOps F]

variable (m : (ℓ : Loc nD τ sig) → Buf (Elt F) ℓ) (c : Dev nD)

/-- The first argument on a device. -/
def arg0 : FVec F Cert.ReferenceIdeal.S16x576x64 .f32 := m ((c.tc : Thread nD τ).loc main_arg0)

/-- The second argument on a device. -/
def arg1 : FVec F Cert.ReferenceIdeal.S8192x64 .f32 := m ((c.tc : Thread nD τ).loc main_arg1)

/-- The normalised rows. -/
theorem V_rows : V m c main_call0_v4 = Stages.unitRows (Stages.rows (arg0 m c)) := by
  show StableHlo.after hostOps0 _ _ = _
  after_reads_simp
  simp only [StableHlo.TRef.ofBuf_toBuf]
  simp only [StableHlo.TRef.toBuf, StableHlo.TRef.ofBuf, cast_eq]
  rfl

/-- Their squared lengths. -/
theorem V_rowSq : V m c main_call0_v11 = Stages.rowSq (Stages.unitRows (Stages.rows (arg0 m c))) := by
  show StableHlo.after hostOps0 _ _ = _
  after_reads_simp
  simp only [StableHlo.TRef.ofBuf_toBuf]
  simp only [StableHlo.TRef.toBuf, StableHlo.TRef.ofBuf, cast_eq]
  rfl

/-- The normalised codebook. -/
theorem V_codes : V m c main_call0_v8 = Stages.unitCodes (arg1 m c) := by
  show StableHlo.after hostOps0 _ _ = _
  after_reads_simp
  simp only [StableHlo.TRef.ofBuf_toBuf]
  simp only [StableHlo.TRef.toBuf, StableHlo.TRef.ofBuf, cast_eq]
  rfl

/-- Its squared lengths. -/
theorem V_codeSq : V m c main_call0_v14 = Stages.codeSq (Stages.unitCodes (arg1 m c)) := by
  show StableHlo.after hostOps0 _ _ = _
  after_reads_simp
  simp only [StableHlo.TRef.ofBuf_toBuf]
  simp only [StableHlo.TRef.toBuf, StableHlo.TRef.ofBuf, cast_eq]
  rfl

end Cert.KernelIdeal.Entry
-- ==== Proof.Blocks.lean ====
/-
  The blocks the kernel's points read, as parts of the stages of the reference.
-/
module

public import proofs.«01_k».proof.Proof.Entry
public import proofs.«01_k».proof.Proof.Run
public import Idealize.ShloMosaic.Lib.Pointwise
public import Idealize.ShloMosaic.Lib.Pipeline.ValueKit

@[expose] public section

noncomputable section

namespace Cert.KernelIdeal.Blocks

open Cert.KernelIdeal Cert.KernelIdeal.Gen Cert.KernelIdeal.Entry
open Idealize.ShloMosaic Idealize.ShloMosaic.TcCoe

variable {F : FTy → Type} [FloatOps F]

variable (m : (ℓ : Loc nD τ sig) → Buf (Elt F) ℓ) (c : Dev nD)

/-- The row of the whole that a point's row is. -/
def rowAt (t : Fin cfg0.N) (r : Fin 256) : Fin 9216 :=
  ⟨t.val * 256 + r.val, by have : t.val < 36 := t.isLt; have := r.isLt; omega⟩

/-- Where the windows stand at a point. -/
theorem index_eq : ∀ t : Fin cfg0.N, (win0 0).index t = ![t.val, 0] ∧ (win0 1).index t = ![t.val, 0] ∧ (win0 2).index t = ![0, 0]
    ∧ (win0 3).index t = ![0, 0] ∧ (win0 4).index t = ![0, 0] ∧ (win0 5).index t = ![t.val, 0] ∧ (win0 6).index t = ![t.val, 0] := by
  decide +kernel

/-- The block of normalised rows. -/
theorem rows_blk (t : Fin cfg0.N) (r : Fin 256) (d : Fin 64) :
    iblk m c 0 t (ix2 r d) = Stages.unitRows (Stages.rows (arg0 m c)) (ix2 (rowAt t r) d) := by
  rw [← V_rows]
  have := index_eq t
  blk_ext [iblk, rowAt, this]

/-- Its squared lengths. -/
theorem rowSq_blk (t : Fin cfg0.N) (r : Fin 256) :
    iblk m c 1 t (ix2 r 0) = Stages.rowSq (Stages.unitRows (Stages.rows (arg0 m c))) (ix2 (rowAt t r) 0) := by
  rw [← V_rowSq]
  have := index_eq t
  blk_ext [iblk, rowAt, this]

/-- The normalised codebook. -/
theorem codes_blk (t : Fin cfg0.N) : iblk m c 2 t = Stages.unitCodes (arg1 m c) := by
  rw [← V_codes]
  have := index_eq t
  funext y
  blk_ext [iblk, this]

/-- Its squared lengths. -/
theorem codeSq_blk (t : Fin cfg0.N) : iblk m c 3 t = Stages.codeSq (Stages.unitCodes (arg1 m c)) := by
  rw [← V_codeSq]
  have := index_eq t
  funext y
  blk_ext [iblk, this]

/-- The codebook. -/
theorem code_blk (t : Fin cfg0.N) : iblk m c 4 t = arg1 m c := by
  have := index_eq t
  have h : arg1 m c = V m c main_arg1 := (V_main_arg1 m c).symm
  rw [h]
  funext y
  blk_ext [iblk, this]

end Cert.KernelIdeal.Blocks
-- ==== Proof.Math.lean ====
/-
  The mathematics the two programs share, over extended reals and without tensors: a vector over its clipped length, the
  first of the least entries of a row, the one-hot row of it, and the two ways the loss and the counts are written.
-/
module

public import Idealize.ShloMosaic.PureOps.Ideal
public import Idealize.ShloMosaic.Lib.IdealHost

@[expose] public section

noncomputable section

namespace Cert.Math

open Idealize.ShloMosaic
open scoped BigOperators Classical

/-- The least length a vector is divided by. -/
abbrev eps : EReal := Ideal.ofBits .f32 0x2B8CBCCC#32

/-- It is a positive real. -/
theorem eps_real : eps = ((9223372 / 2 ^ 63 : ℝ) : EReal) := by
  simp [eps, Ideal.ofBits, Ideal.ieee, -EReal.coe_mul]; norm_num

/-- A square is not negative. -/
theorem sq_nonneg (x : EReal) : 0 ≤ x * x := by
  induction x using EReal.rec with
  | bot => simp
  | top => simp
  | coe r => rw [← EReal.coe_mul]; exact EReal.coe_nonneg.mpr (mul_self_nonneg r)

/-- The square of an infinite is infinite. -/
theorem sq_top {x : EReal} (h : ¬∃ r : ℝ, x = r) : x * x = ⊤ := by
  induction x using EReal.rec with
  | bot => simp
  | top => simp
  | coe r => exact absurd ⟨r, rfl⟩ h

/-- A sum of reals is real. -/
theorem sum_real {ι : Type} (s : Finset ι) (f : ι → EReal) (h : ∀ i, ∃ r : ℝ, f i = r) : ∃ r : ℝ, ∑ i ∈ s, f i = r := by
  choose g hg using h
  refine ⟨∑ i ∈ s, g i, ?_⟩
  simp only [hg]
  induction s using Finset.induction_on with
  | empty => simp
  | insert a s ha ih => rw [Finset.sum_insert ha, Finset.sum_insert ha, ih, EReal.coe_add]

/-- A vector's entry over the vector's clipped length. -/
def unit (v : Fin 64 → EReal) (d : Fin 64) : EReal :=
  Ideal.div (v d) (max eps (Ideal.sqrt (∑ k, v k * v k)))

/-- It is always a real: a vector with an infinite entry has infinite length, and goes to zero. -/
theorem unit_real (v : Fin 64 → EReal) (d : Fin 64) : ∃ r : ℝ, unit v d = r := by
  by_cases h : ∀ k, ∃ r : ℝ, v k = r
  · have hs : ∃ s : ℝ, 0 ≤ s ∧ ∑ k, v k * v k = s := by
      obtain ⟨s, hs⟩ := sum_real Finset.univ (fun k => v k * v k) fun k => by
        obtain ⟨r, hr⟩ := h k
        exact ⟨r * r, by rw [hr, EReal.coe_mul]⟩
      exact ⟨s, EReal.coe_nonneg.mp (hs ▸ Finset.sum_nonneg fun k _ => sq_nonneg (v k)), hs⟩
    obtain ⟨s, h0, hs⟩ := hs
    obtain ⟨r, hr⟩ := h d
    have hq : Ideal.sqrt (s : EReal) = (Real.sqrt s : EReal) := by
      change (if s < 0 then (⊥ : EReal) else (Real.sqrt s : EReal)) = _
      rw [if_neg (not_lt.mpr h0)]
    have hm : max eps (Ideal.sqrt (s : EReal)) = ((max (9223372 / 2 ^ 63 : ℝ) (Real.sqrt s) : ℝ) : EReal) := by
      rw [hq, eps_real]
      exact (EReal.coe_strictMono.monotone.map_max).symm
    have hp : (0 : ℝ) < max (9223372 / 2 ^ 63 : ℝ) (Real.sqrt s) := lt_max_of_lt_left (by norm_num)
    refine ⟨r * (1 / max (9223372 / 2 ^ 63 : ℝ) (Real.sqrt s)), ?_⟩
    unfold unit
    rw [hs, hm, Ideal.div_coe hp.ne', hr, EReal.coe_mul]
  · obtain ⟨k, hk⟩ := not_forall.mp h
    have ht : ∑ k, v k * v k = ⊤ := by
      refine top_le_iff.mp ?_
      rw [← sq_top hk]
      exact Finset.single_le_sum (f := fun k => v k * v k) (fun i _ => sq_nonneg (v i)) (Finset.mem_univ k)
    refine ⟨0, ?_⟩
    have hq : Ideal.sqrt ⊤ = ⊤ := rfl
    unfold unit
    rw [ht, hq, max_eq_right le_top]
    unfold Ideal.div
    rw [if_neg EReal.top_ne_zero, EReal.inv_top, mul_zero, EReal.coe_zero]

/-- A real taken away and put back. -/
theorem add_sub_real {x y : EReal} (hx : ∃ r : ℝ, x = r) (hy : ∃ r : ℝ, y = r) : x + (y - x) = y := by
  obtain ⟨a, rfl⟩ := hx
  obtain ⟨b, rfl⟩ := hy
  rw [← EReal.coe_sub, ← EReal.coe_add]
  congr 1; ring

/-- The squared difference of two unit entries is a real. -/
theorem diff_sq_real (v w : Fin 64 → EReal) (d : Fin 64) :
    ∃ r : ℝ, (unit v d - unit w d) * (unit v d - unit w d) = r := by
  obtain ⟨a, ha⟩ := unit_real v d
  obtain ⟨b, hb⟩ := unit_real w d
  exact ⟨(a - b) * (a - b), by rw [ha, hb, ← EReal.coe_sub, ← EReal.coe_mul]⟩

/-- One and a quarter of a total over the number of entries is the mean and a quarter of the mean. -/
theorem loss_scale {s : EReal} (h : ∃ r : ℝ, s = r) :
    Ideal.div (Ideal.ofBits .f32 0x3FA00000#32 * s) (Ideal.ofBits .f32 0x49100000#32)
      = Ideal.div s (Ideal.ofBits .f32 0x49100000#32)
        + Ideal.ofBits .f32 0x3E800000#32 * Ideal.div s (Ideal.ofBits .f32 0x49100000#32) := by
  obtain ⟨r, rfl⟩ := h
  have h1 : Ideal.ofBits .f32 0x3FA00000#32 = ((5 / 4 : ℝ) : EReal) := by
    simp [Ideal.ofBits, Ideal.ieee, -EReal.coe_mul]; norm_num
  have h2 : Ideal.ofBits .f32 0x49100000#32 = ((589824 : ℝ) : EReal) := by
    simp [Ideal.ofBits, Ideal.ieee, -EReal.coe_mul]; norm_num
  have h3 : Ideal.ofBits .f32 0x3E800000#32 = ((1 / 4 : ℝ) : EReal) := by
    simp [Ideal.ofBits, Ideal.ieee, -EReal.coe_mul]; norm_num
  rw [h1, h2, h3, Ideal.div_coe (by norm_num), Ideal.div_coe (by norm_num), ← EReal.coe_mul, ← EReal.coe_mul,
    ← EReal.coe_mul, ← EReal.coe_mul, ← EReal.coe_add]
  congr 1; ring

/-- An entry is a least one of its row. -/
def IsLeast {n : Nat} (D : Fin n → EReal) (k : Fin n) : Prop := ∀ j, D k ≤ D j

/-- An entry is the first of the least ones of its row. -/
def IsFirst {n : Nat} (D : Fin n → EReal) (k : Fin n) : Prop := IsLeast D k ∧ ∀ j, IsLeast D j → k ≤ j

/-- A row that is not empty has a first least entry. -/
theorem exists_first {n : Nat} [NeZero n] (D : Fin n → EReal) : ∃ k, IsFirst D k := by
  have hne : (Finset.univ.filter fun k => IsLeast D k).Nonempty := by
    obtain ⟨k, _, hk⟩ := Finset.exists_min_image Finset.univ D ⟨0, Finset.mem_univ _⟩
    exact ⟨k, Finset.mem_filter.mpr ⟨Finset.mem_univ _, fun j => hk j (Finset.mem_univ _)⟩⟩
  refine ⟨(Finset.univ.filter fun k => IsLeast D k).min' hne, (Finset.mem_filter.mp (Finset.min'_mem _ hne)).2, fun j hj => ?_⟩
  exact Finset.min'_le _ _ (Finset.mem_filter.mpr ⟨Finset.mem_univ _, hj⟩)

/-- It is the only one. -/
theorem first_unique {n : Nat} {D : Fin n → EReal} {k l : Fin n} (hk : IsFirst D k) (hl : IsFirst D l) : k = l :=
  le_antisymm (hk.2 l hl.1) (hl.2 k hk.1)

/-- The row that marks the least entries. -/
def mark {n : Nat} (D : Fin n → EReal) (k : Fin n) : EReal := if IsLeast D k then 1 else 0

/-- The row that marks the first least entry. -/
def hot {n : Nat} (D : Fin n → EReal) (k : Fin n) : EReal := if IsFirst D k then 1 else 0

/-- If the marks add up to one, the only marked entry is the first. -/
theorem mark_eq_hot {n : Nat} [NeZero n] (D : Fin n → EReal) (h : ∑ k, mark D k = 1) : mark D = hot D := by
  have hc : (Finset.univ.filter fun k => IsLeast D k).card = 1 := by
    have := Finset.sum_boole (R := EReal) (fun k => IsLeast D k) Finset.univ
    unfold mark at h
    rw [h] at this
    exact_mod_cast this.symm
  obtain ⟨a, ha⟩ := Finset.card_eq_one.mp hc
  have hl : ∀ k, IsLeast D k ↔ k = a := fun k => by
    have : k ∈ (Finset.univ.filter fun k => IsLeast D k) ↔ k = a := by rw [ha]; exact Finset.mem_singleton
    rw [← this, Finset.mem_filter]
    exact ⟨fun h => ⟨Finset.mem_univ _, h⟩, fun h => h.2⟩
  funext k
  unfold mark hot
  refine if_congr ⟨fun hk => ⟨hk, fun j hj => ?_⟩, fun hk => hk.1⟩ rfl rfl
  rw [(hl k).mp hk, (hl j).mp hj]

/-- Marks are reals. -/
theorem mark_real {n : Nat} (D : Fin n → EReal) (k : Fin n) : ∃ r : ℝ, mark D k = r := by
  unfold mark; split_ifs
  · exact ⟨1, by simp⟩
  · exact ⟨0, by simp⟩

/-- One-hot entries are reals. -/
theorem hot_real {n : Nat} (D : Fin n → EReal) (k : Fin n) : ∃ r : ℝ, hot D k = r := by
  unfold hot; split_ifs
  · exact ⟨1, by simp⟩
  · exact ⟨0, by simp⟩

/-- The hot row of a known first entry. -/
theorem hot_eq {n : Nat} {D : Fin n → EReal} {f : Fin n} (hf : IsFirst D f) (k : Fin n) : hot D k = if k = f then 1 else 0 :=
  if_congr ⟨fun h => first_unique h hf, fun h => h ▸ hf⟩ rfl rfl

/-- An entry equals the fold of the minimum exactly where it is least. -/
theorem eq_fold_min {n : Nat} (D : Fin n → EReal) (k : Fin n) : D k = Finset.fold min ⊤ D Finset.univ ↔ IsLeast D k := by
  constructor
  · intro h j
    exact ((Finset.le_fold_min _).mp h.le).2 j (Finset.mem_univ j)
  · intro h
    exact le_antisymm ((Finset.le_fold_min _).mpr ⟨le_top, fun j _ => h j⟩) ((Finset.fold_min_le _).mpr (.inr ⟨k, Finset.mem_univ k, le_rfl⟩))

/-- A sum of reals and a sum of corrections is the sum of the corrected. -/
theorem sum_correct {ι : Type} (s : Finset ι) (f g : ι → EReal) (hf : ∀ i, ∃ r : ℝ, f i = r) (hg : ∀ i, ∃ r : ℝ, g i = r) :
    ∑ i ∈ s, f i + ∑ i ∈ s, (g i - f i) = ∑ i ∈ s, g i := by
  rw [← Finset.sum_add_distrib]
  exact Finset.sum_congr rfl fun i _ => add_sub_real (hf i) (hg i)

/-- A sum over `N` rows, block by block. -/
theorem sum_split (a b N : ℕ) (h : a * b = N) (f : Fin N → EReal) :
    ∑ R : Fin N, f R = ∑ i : Fin a, ∑ j : Fin b, f ⟨i.val * b + j.val, by
      have h1 := Nat.mul_le_mul_right b (Nat.succ_le_of_lt i.isLt); have := j.isLt; rw [h, Nat.succ_mul] at h1; omega⟩ := by
  subst h
  rw [← Fintype.sum_prod_type' (f := fun (i : Fin a) (j : Fin b) => f ⟨i.val * b + j.val, _⟩)]
  refine (Fintype.sum_equiv finProdFinEquiv _ _ fun p => congrArg f (Fin.ext ?_)).symm
  simp only [finProdFinEquiv_apply_val]
  rw [Nat.mul_comm, Nat.add_comm]

/-- The perplexity of counts over 9216 rows. -/
def perplex (n : Fin 8192 → EReal) : EReal :=
  Ideal.exp (0 - ∑ k, Ideal.div (n k) (Ideal.ofBits .f32 0x46100000#32) *
    Ideal.log (Ideal.div (n k) (Ideal.ofBits .f32 0x46100000#32) + Ideal.ofBits .f32 0x2EDBE6FF#32))

/-! ## Words -/

/-- The pattern of plus infinity. -/
theorem posInf : Ideal.ofBits .f32 0x7F800000#32 = ⊤ := by simp [Ideal.ofBits, Ideal.ieee]

/-- A truth value widened and read as a signed number. -/
theorem sitofp_bit (p : Prop) [Decidable p] :
    (FloatOps.sitofp .f32 (BitVec.setWidth 32 (BitVec.ofBool (decide p))) : Ideal .f32) = (if p then 1 else 0 : EReal) := by
  by_cases h : p <;> simp [h, FloatOps.sitofp]

/-- A truth value read as an unsigned number. -/
theorem uitofp_bit (p : Prop) [Decidable p] :
    (FloatOps.uitofp .f32 (BitVec.ofBool (decide p)) : Ideal .f32) = (if p then 1 else 0 : EReal) := by
  by_cases h : p <;> simp [h, FloatOps.uitofp]

/-- Small positions as words, read back. -/
theorem word_toInt (k : Fin 8192) : (BitVec.ofNat 32 k.val).toInt = k.val := by
  have := k.isLt
  rw [BitVec.toInt_eq_toNat_of_lt] <;> rw [BitVec.toNat_ofNat] <;> omega

/-- They differ as words where they differ. -/
theorem word_eq_iff (k l : Fin 8192) : BitVec.ofNat 32 k.val = BitVec.ofNat 32 l.val ↔ k = l := by
  constructor
  · intro h
    have := congrArg BitVec.toInt h
    rw [word_toInt, word_toInt] at this
    exact Fin.ext (by exact_mod_cast this)
  · rintro rfl; rfl

/-- Equality of words as a truth value. -/
theorem cmpi_eq (x y : BitVec 32) : IntOp.cmpi .eq x y = BitVec.ofBool (decide (x = y)) := by
  simp only [IntOp.cmpi, beq_eq_decide]

/-- The fold of the signed minimum is one of what it folds and not above any of it. -/
theorem fold_minsi {ι : Type} (s : Finset ι) (b : BitVec 32) (f : ι → BitVec 32) :
    (Finset.fold IntOp.minsi b f s = b ∨ ∃ i ∈ s, Finset.fold IntOp.minsi b f s = f i)
      ∧ (Finset.fold IntOp.minsi b f s).toInt ≤ b.toInt ∧ ∀ i ∈ s, (Finset.fold IntOp.minsi b f s).toInt ≤ (f i).toInt := by
  induction s using Finset.induction_on with
  | empty => simp
  | insert i s hi ih =>
    rw [Finset.fold_insert hi]
    obtain ⟨h1, h2, h3⟩ := ih
    generalize Finset.fold IntOp.minsi b f s = m at h1 h2 h3
    have hm : (IntOp.minsi (f i) m = f i ∧ (f i).toInt ≤ m.toInt) ∨ (IntOp.minsi (f i) m = m ∧ m.toInt ≤ (f i).toInt) := by
      unfold IntOp.minsi
      by_cases h : (f i).slt m
      · exact .inl ⟨by simp [h], (BitVec.slt_iff_toInt_lt.mp h).le⟩
      · exact .inr ⟨by simp [h], not_lt.mp (mt BitVec.slt_iff_toInt_lt.mpr h)⟩
    rcases hm with ⟨hm, hle⟩ | ⟨hm, hle⟩
    · rw [hm]
      exact ⟨.inr ⟨i, Finset.mem_insert_self i s, rfl⟩, hle.trans h2, fun j hj => (Finset.mem_insert.mp hj).elim
        (fun h => h ▸ le_rfl) fun h => hle.trans (h3 j h)⟩
    · rw [hm]
      exact ⟨h1.imp id fun ⟨j, hj, e⟩ => ⟨j, Finset.mem_insert_of_mem hj, e⟩, h2, fun j hj => (Finset.mem_insert.mp hj).elim
        (fun h => h ▸ hle) (h3 j)⟩

/-- The least position among the least entries, as the signed minimum finds it, is the first. -/
theorem fold_minsi_first {D : Fin 8192 → EReal} {f : Fin 8192} (hf : IsFirst D f) :
    Finset.fold IntOp.minsi 2147483647#32 (fun k => if IsLeast D k then BitVec.ofNat 32 k.val else 8192#32) Finset.univ
      = BitVec.ofNat 32 f.val := by
  obtain ⟨h1, h2, h3⟩ := fold_minsi Finset.univ 2147483647#32 (fun k => if IsLeast D k then BitVec.ofNat 32 k.val else 8192#32)
  generalize Finset.fold IntOp.minsi 2147483647#32 (fun k => if IsLeast D k then BitVec.ofNat 32 k.val else 8192#32) Finset.univ = m
    at h1 h2 h3
  have hle := h3 f (Finset.mem_univ f)
  rw [if_pos hf.1, word_toInt] at hle
  have hlt := f.isLt
  have h5 : (8192#32 : BitVec 32).toInt = 8192 := by decide
  have h6 : (2147483647#32 : BitVec 32).toInt = 2147483647 := by decide
  rcases h1 with rfl | ⟨k, -, hk⟩
  · rw [h6] at hle; omega
  · subst hk
    by_cases hl : IsLeast D k
    · rw [if_pos hl] at hle ⊢
      rw [word_toInt] at hle
      have : f.val ≤ k.val := hf.2 k hl
      rw [show k = f from Fin.ext (by omega)]
    · rw [if_neg hl, h5] at hle; omega

end Cert.Math
-- ==== Proof.Block.lean ====
/-
  One block of the kernel, read at its entries in exact arithmetic: whichever of its two paths a block takes, the
  encodings are the one-hot rows of the first least distance, and the gathered rows, the counts and the loss are sums
  over those.
-/
module

public import proofs.«01_k».proof.Proof.Math
public import proofs.«01_k».proof.Proof.Body
public import Idealize.ShloMosaic.Lib.Pointwise

@[expose] public section

noncomputable section

namespace Cert.KernelIdeal.Block

open Cert.KernelIdeal Cert.KernelIdeal.Gen Cert.KernelIdeal.Body Cert.Math
open Idealize.ShloMosaic
open scoped BigOperators Classical

variable (x : Vec Ideal S256x64 .f32) (xs : Vec Ideal S256x1 .f32) (a : Vec Ideal S8192x64 .bf16) (ws : Vec Ideal S1x8192 .f32)
  (w : Vec Ideal S8192x64 .f32) (b : Vec Ideal S8192x128 .bf16) (n : Vec Ideal S1x8192 .f32)

/-- The distances of a block's row. -/
def row (r : Fin 256) (k : Fin 8192) : EReal :=
  xs (ix2 r 0) + ws (ix2 0 k) - Ideal.ofBits .f32 0x40000000#32 * ∑ d : Fin 64, x (ix2 r d) * a (ix2 k d)

/-- The distances as computed. -/
theorem dist_apply (r : Fin 256) (k : Fin 8192) : k0_pay9 x xs a ws (ix2 r k) = row x xs a ws r k := by
  pointwise [k0_pay9, k0_pay8]
  rfl

/-- A distance equals the row's computed minimum exactly where it is least. -/
theorem eq_min_iff (r : Fin 256) (k : Fin 8192) :
    k0_pay9 x xs a ws (ix2 r k) = k0_pay10 x xs a ws (ix2 r 0) ↔ IsLeast (row x xs a ws r) k := by
  have h : k0_pay10 x xs a ws (ix2 r 0) = Finset.fold min ⊤ (row x xs a ws r) Finset.univ := by
    pointwise [k0_pay10]
    rw [posInf]
    simp only [dist_apply]
  rw [h, dist_apply, eq_fold_min]

/-- The mask of the minima marks the least entries. -/
theorem mask_apply (r : Fin 256) (k : Fin 8192) : k0_pay12 x xs a ws (ix2 r k) = mark (row x xs a ws r) k := by
  pointwise [k0_pay12, k0_pay11]
  rw [sitofp_bit]
  exact if_congr (eq_min_iff x xs a ws r k) rfl rfl

/-- The mask as the product takes it. -/
theorem mask_apply' (r : Fin 256) (k : Fin 8192) : k0_pay14 x xs a ws (ix2 r k) = mark (row x xs a ws r) k :=
  mask_apply x xs a ws r k

/-- The fixing path's rows are hot at the first least entry. -/
theorem fixed_apply (r : Fin 256) (k : Fin 8192) :
    k0_pay18 (k0_pay9 x xs a ws) (k0_pay10 x xs a ws) (ix2 r k) = hot (row x xs a ws r) k := by
  pointwise [k0_pay18]
  simp only [eq_min_iff]
  obtain ⟨f, hf⟩ := exists_first (row x xs a ws r)
  rw [fold_minsi_first hf, cmpi_eq, sitofp_bit, hot_eq hf]
  exact if_congr (word_eq_iff k f) rfl rfl

/-- A product with the extended codebook. -/
theorem gather_apply (v : FVec Ideal S256x8192 .f32) (r : Fin 256) (d : Fin 128) :
    k0_pay15 v b (ix2 r d) = ∑ k, v (ix2 r k) * b (ix2 k d) := by
  pointwise [k0_pay15]

/-- The extended codebook's first columns are the codebook. -/
theorem ext_code (k : Fin 8192) (d : Fin 64) : k0_pay5 w (ix2 k (d.castLE (by decide))) = w (ix2 k d) := by
  pointwise [k0_pay5]
  simp

/-- Its column of ones. -/
theorem ext_one (k : Fin 8192) : k0_pay5 w (ix2 k 64) = 1 := by
  pointwise [k0_pay5]

/-- Where the block is not flagged, every row gathers a one. -/
theorem one_of_not_tied (v : FVec Ideal S256x8192 .f32) (h : ¬tied v b) (r : Fin 256) : k0_pay15 v b (ix2 r 64) = 1 := by
  have h0 : k0_pay17 v b ≤ 0 := by
    by_contra hc
    refine h ?_
    have : (0 : EReal) < k0_pay17 v b := not_le.mp hc
    have hp : Scalar.cmpf .ogt (k0_pay17 v b) (FloatOps.ofBits .f32 0x00000000#32) = 1#1 := by
      pointwise []
      simp [this]
    unfold tied
    rw [hp]
    decide
  have h1 : k0_pay17 v b = Finset.fold max (Ideal.ofBits .f32 0xFF800000#32)
      (fun r : Fin 256 => if k0_pay15 v b (ix2 r 64) ≠ 1 then (1 : EReal) else 0) Finset.univ := by
    pointwise [k0_pay17]
  rw [h1, Finset.fold_max_le] at h0
  have := h0.2 r (Finset.mem_univ r)
  by_contra hc
  rw [if_pos hc] at this
  exact absurd this (by simp)

/-- So there the marks of each row add up to one and the mask is hot at the first least entry. -/
theorem mark_of_not_tied (h : ¬tied (k0_pay14 x xs a ws) (k0_pay5 w)) (r : Fin 256) :
    mark (row x xs a ws r) = hot (row x xs a ws r) := by
  have := one_of_not_tied (k0_pay5 w) _ h r
  rw [gather_apply] at this
  simp only [ext_one, mul_one, mask_apply'] at this
  exact mark_eq_hot _ this

/-- The encodings block. -/
theorem enc_apply (r : Fin 256) (k : Fin 8192) : encOf x xs a ws (k0_pay5 w) (ix2 r k) = hot (row x xs a ws r) k := by
  unfold encOf
  split_ifs with h
  · exact fixed_apply x xs a ws r k
  · rw [mask_apply, mark_of_not_tied x xs a ws w h]

/-- The gathered rows: the codebook's row at the hot entry. -/
theorem qe_apply (r : Fin 256) (d : Fin 64) :
    cols (qeOf x xs a ws (k0_pay5 w)) (ix2 r d) = ∑ k, hot (row x xs a ws r) k * w (ix2 k d) := by
  have hc : ∀ q : Vec Ideal S256x128 .f32, cols q (ix2 r d) = q (ix2 r (d.castLE (by decide))) := fun q => by
    refine congrArg q (funext fun i => ?_)
    match i with
    | ⟨0, _⟩ => exact Fin.ext (by simp [Rect.unit])
    | ⟨1, _⟩ => exact Fin.ext (by simp [Rect.unit])
  rw [hc]
  unfold qeOf
  split_ifs with h
  · have : k0_pay20 (k0_pay9 x xs a ws) (k0_pay10 x xs a ws) (k0_pay5 w) (ix2 r (d.castLE (by decide)))
        = ∑ k, k0_pay18 (k0_pay9 x xs a ws) (k0_pay10 x xs a ws) (ix2 r k) * k0_pay5 w (ix2 k (d.castLE (by decide))) := by
      pointwise [k0_pay20]
    rw [this]
    simp only [fixed_apply, ext_code]
  · have : k0_pay16 (k0_pay14 x xs a ws) (k0_pay5 w) (ix2 r (d.castLE (by decide)))
        = ∑ k, k0_pay14 x xs a ws (ix2 r k) * k0_pay5 w (ix2 k (d.castLE (by decide))) := by
      pointwise [k0_pay16, k0_pay15]
    rw [this]
    simp only [mask_apply', ext_code, mark_of_not_tied x xs a ws w h]

/-- The counts. -/
theorem cnt_apply (k : Fin 8192) :
    cntOf x xs a ws (k0_pay5 w) n (ix2 0 k) = n (ix2 0 k) + ∑ r, hot (row x xs a ws r) k := by
  have h13 : k0_pay13 x xs a ws n (ix2 0 k) = n (ix2 0 k) + ∑ r, mark (row x xs a ws r) k := by
    have : k0_pay13 x xs a ws n (ix2 0 k) = n (ix2 0 k) + ∑ r, k0_pay12 x xs a ws (ix2 r k) := by
      pointwise [k0_pay13, k0_pay12]
    rw [this]
    simp only [mask_apply]
  unfold cntOf
  split_ifs with h
  · have : ∀ n' : Vec Ideal S1x8192 .f32, k0_pay19 (k0_pay9 x xs a ws) (k0_pay10 x xs a ws) (k0_pay11 x xs a ws) n' (ix2 0 k)
        = n' (ix2 0 k) + ∑ r, (k0_pay18 (k0_pay9 x xs a ws) (k0_pay10 x xs a ws) (ix2 r k) - k0_pay12 x xs a ws (ix2 r k)) := fun n' => by
      pointwise [k0_pay19, k0_pay12]
    rw [this, h13]
    simp only [fixed_apply, mask_apply]
    rw [add_assoc, sum_correct _ _ _ (fun r => mark_real _ k) (fun r => hot_real _ k)]
  · rw [h13]
    simp only [mark_of_not_tied x xs a ws w h]

/-- A block of rows over their clipped lengths. -/
theorem unit_apply (v : Vec Ideal S256x64 .f32) (r : Fin 256) (d : Fin 64) :
    k0_pay21 v (ix2 r d) = unit (fun d => v (ix2 r d)) d := by
  pointwise [k0_pay21]
  unfold unit
  rw [max_comm]

/-- The loss's sum. -/
theorem loss_apply (q : Vec Ideal S256x128 .f32) (l : Vec Ideal S1x1 .f32) :
    Body.lossOf x q l (ix2 0 0) = l (ix2 0 0) + ∑ r : Fin 256, ∑ d : Fin 64,
      (k0_pay21 (cols q) (ix2 r d) - x (ix2 r d)) * (k0_pay21 (cols q) (ix2 r d) - x (ix2 r d)) := by
  unfold Body.lossOf
  generalize cols q = v
  pointwise [k0_pay1, k0_pay22, k0_pay23, k0_pay8]

/-- The loss's scaling at the last point. -/
theorem scale_apply (l : Vec Ideal S1x1 .f32) : k0_pay2 l (ix2 0 0)
    = Ideal.div (Ideal.ofBits .f32 0x3FA00000#32 * l (ix2 0 0)) (Ideal.ofBits .f32 0x49100000#32) := by
  pointwise [k0_pay2]

/-- The scalar exponential. -/
theorem exp_eq (y : EReal) : Scalar.exp (F := Ideal) (φ := .f32) y = Ideal.exp y := rfl

/-- The perplexity of the counts. -/
theorem perp_apply (n : Vec Ideal S1x8192 .f32) : k0_pay3 n (ix2 0 0) = perplex (fun k => n (ix2 0 k)) := by
  pointwise [k0_pay3]
  rw [Fin.sum_univ_one]
  exact exp_eq _

/-- The counts begin at zero, -/
theorem zero_cnt (k : Fin 8192) : k0_pay6 (F := Ideal) (ix2 0 k) = 0 := by pointwise [k0_pay6]

/-- and so does the loss. -/
theorem zero_loss : k0_pay7 (F := Ideal) (ix2 0 0) = 0 := by pointwise [k0_pay7]

end Cert.KernelIdeal.Block
-- ==== Proof.First.lean ====
/-
  The reference's arg-min read as what it is: the position it returns is the first of the least entries of the row.
-/
module

public import proofs.«01_k».proof.Proof.Math
public import proofs.«01_k».proof.Proof.Stages
public import Idealize.ShloMosaic.PureOps.Ideal.Laws
public import Idealize.ShloMosaic.Lib.Pointwise

@[expose] public section

noncomputable section

namespace Cert.First

open Cert.ReferenceIdeal Cert.ReferenceIdeal.Gen Cert.Math
open Idealize.ShloMosaic
open scoped Classical

/-- One (value, position) pair comes before another: a lesser value, or the same value and a lesser position. -/
def Before (a b : EReal × BitVec 32) : Prop := a.1 < b.1 ∨ a.1 = b.1 ∧ a.2.toInt < b.2.toInt

/-- One pair is not after another. -/
def NotAfter (a b : EReal × BitVec 32) : Prop := a.1 < b.1 ∨ a.1 = b.1 ∧ a.2.toInt ≤ b.2.toInt

/-- The body of the arg-min keeps the earlier of two pairs. -/
theorem reducer_eq (a b : EReal × BitVec 32) : reducer_argmin_f32_i32 (F := Ideal) a b = if Before a b then a else b := by
  obtain ⟨x, i⟩ := a
  obtain ⟨y, j⟩ := b
  simp only [reducer_argmin_f32_i32, Ideal.cmpf_def, Ideal.cmp, Before, IntOp.cmpi, IntOp.ori, IntOp.andi, Scalar.select]
  rcases lt_trichotomy x y with h | h | h
  · simp [h, h.ne]
  · subst h
    by_cases hij : i.toInt < j.toInt
    · simp [hij, BitVec.slt]
    · simp [hij, BitVec.slt]
  · simp [h.not_gt, h.ne']

/-- No pair is after itself, -/
theorem NotAfter.refl (a : EReal × BitVec 32) : NotAfter a a := .inr ⟨rfl, le_refl _⟩

/-- and the order passes on. -/
theorem NotAfter.trans {a b c : EReal × BitVec 32} (h : NotAfter a b) (h' : NotAfter b c) : NotAfter a c := by
  rcases h with h | ⟨h, hi⟩ <;> rcases h' with h' | ⟨h', hj⟩
  · exact .inl (h.trans h')
  · exact .inl (h' ▸ h)
  · exact .inl (h ▸ h')
  · exact .inr ⟨h.trans h', hi.trans hj⟩

/-- What is kept is one of the two and not after either. -/
theorem reducer_spec (a b : EReal × BitVec 32) :
    (reducer_argmin_f32_i32 (F := Ideal) a b = a ∨ reducer_argmin_f32_i32 (F := Ideal) a b = b)
      ∧ NotAfter (reducer_argmin_f32_i32 (F := Ideal) a b) a ∧ NotAfter (reducer_argmin_f32_i32 (F := Ideal) a b) b := by
  rw [reducer_eq]
  by_cases h : Before a b
  · rw [if_pos h]
    exact ⟨.inl rfl, .refl a, h.imp id fun h => ⟨h.1, h.2.le⟩⟩
  · rw [if_neg h]
    refine ⟨.inr rfl, ?_, .refl b⟩
    rcases lt_trichotomy a.1 b.1 with hv | hv | hv
    · exact absurd (.inl hv) h
    · exact .inr ⟨hv.symm, not_lt.mp fun hi => h (.inr ⟨hv, hi⟩)⟩
    · exact .inl hv

/-- A fold of the body keeps the initial pair or a pair of the list, and it is not after any of them. -/
theorem foldl_spec (l : List (EReal × BitVec 32)) : ∀ p : EReal × BitVec 32,
    (l.foldl (reducer_argmin_f32_i32 (F := Ideal)) p = p ∨ l.foldl (reducer_argmin_f32_i32 (F := Ideal)) p ∈ l)
      ∧ NotAfter (l.foldl (reducer_argmin_f32_i32 (F := Ideal)) p) p
      ∧ ∀ q ∈ l, NotAfter (l.foldl (reducer_argmin_f32_i32 (F := Ideal)) p) q := by
  induction l with
  | nil => exact fun p => ⟨.inl rfl, .refl p, fun q hq => absurd hq List.not_mem_nil⟩
  | cons a l ih =>
    intro p
    obtain ⟨hm, hp, hl⟩ := ih (reducer_argmin_f32_i32 (F := Ideal) p a)
    obtain ⟨hs, h1, h2⟩ := reducer_spec p a
    rw [List.foldl_cons]
    refine ⟨?_, hp.trans h1, fun q hq => ?_⟩
    · rcases hm with hm | hm
      · rw [hm]
        exact hs.imp id fun h => by rw [h]; exact List.mem_cons_self
      · exact .inr (List.mem_cons_of_mem _ hm)
    · rcases List.mem_cons.mp hq with rfl | hq
      · exact hp.trans h2
      · exact hl q hq

/-- The row's index of a matrix index. -/
theorem drop_eq (i : S9216x8192.Idx) (r : Fin 9216) :
    reducesTo_S9216x8192_S9216_d1.drop i = ix1 r ↔ i 0 = r := by
  simp [funext_iff, Fin.ext_iff, Fin.forall_fin_one, reducesTo_S9216x8192_S9216_d1.drop_apply_val_of_eq i 0 0]
  exact Fin.ext_iff.symm

/-- A pair of the row's list is a distance with its position. -/
theorem mem_fiber (D : FVec Ideal S9216x8192 .f32) (r : Fin 9216) (p : EReal × BitVec 32) :
    p ∈ Host.argReduceFiber D (iotaInDim S9216x8192 32 1) reducesTo_S9216x8192_S9216_d1 (ix1 r)
      ↔ ∃ k : Fin 8192, p = (D (ix2 r k), BitVec.ofNat 32 k.val) := by
  unfold Host.argReduceFiber
  simp only [List.mem_map, List.mem_filter, List.mem_finRange, true_and, decide_eq_true_eq]
  constructor
  · rintro ⟨n, hn, rfl⟩
    rw [drop_eq] at hn
    refine ⟨S9216x8192.rowMajor.symm n 1, ?_⟩
    have hi : S9216x8192.rowMajor.symm n = ix2 r (S9216x8192.rowMajor.symm n 1) :=
      (eq_ix2 (S9216x8192.rowMajor.symm n)).trans (congrArg (fun a => ix2 a (S9216x8192.rowMajor.symm n 1)) hn)
    exact Prod.ext (congrArg D hi) rfl
  · rintro ⟨k, rfl⟩
    refine ⟨S9216x8192.rowMajor (ix2 r k), ?_, ?_⟩
    · rw [Equiv.symm_apply_apply, drop_eq]
      rfl
    · rw [Equiv.symm_apply_apply]
      rfl

/-- The fold over a row's values with their positions ends at the first of the least. -/
theorem fold_first (L : List (EReal × BitVec 32)) (D : Fin 8192 → EReal)
    (hL : ∀ p, p ∈ L ↔ ∃ k : Fin 8192, p = (D k, BitVec.ofNat 32 k.val)) :
    ∃ k : Fin 8192, (L.foldl (reducer_argmin_f32_i32 (F := Ideal)) (⊤, 0#32)).2 = BitVec.ofNat 32 k.val ∧ IsFirst D k := by
  obtain ⟨hm, hp, hl⟩ := foldl_spec L (⊤, 0#32)
  generalize L.foldl (reducer_argmin_f32_i32 (F := Ideal)) (⊤, 0#32) = q at hm hp hl
  have hk : ∃ k : Fin 8192, q = (D k, BitVec.ofNat 32 k.val) := by
    rcases hm with rfl | hm
    · refine ⟨0, ?_⟩
      rcases hl _ ((hL _).mpr ⟨0, rfl⟩) with h | h
      · exact absurd h (not_lt.mpr le_top)
      · exact Prod.ext h.1 rfl
    · exact (hL q).mp hm
  obtain ⟨k, rfl⟩ := hk
  refine ⟨k, rfl, fun j => ?_, fun j hj => ?_⟩
  · exact (hl _ ((hL _).mpr ⟨j, rfl⟩)).elim le_of_lt fun h => h.1.le
  · rcases hl _ ((hL _).mpr ⟨j, rfl⟩) with h | h
    · exact absurd h (not_lt.mpr (hj k))
    · have := h.2
      rw [word_toInt, word_toInt] at this
      exact_mod_cast this

/-- An arg-min over any shape, from any initial pair, as a fold over the pairs it meets. -/
theorem argReduce_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32)
    (h : s.ReducesTo axes t) (hu : 0 < u.numel) (j : t.Idx) (p : Ideal .f32 × BitVec 32)
    (hx : ix (Shape.Idx.first hu) = p.1) (hy : iy (Shape.Idx.first hu) = p.2) :
    Host.argReduce f x y ix iy h hu j = (Host.argReduceFiber x y h j).foldl f p := by
  rw [Ideal.argReduce_eq_reduce2, Host.reduce2_eq_foldl_fiber, hx, hy]

/-- The arg-min as a fold over the row's pairs. -/
theorem pairs_eq (D : FVec Ideal S9216x8192 .f32) (j : S9216.Idx) :
    Stages.pairs D j = (Host.argReduceFiber D (iotaInDim S9216x8192 32 1) reducesTo_S9216x8192_S9216_d1 j).foldl
        (reducer_argmin_f32_i32 (F := Ideal)) (⊤, 0#32) :=
  argReduce_fold (reducer_argmin_f32_i32 (F := Ideal)) D (iotaInDim S9216x8192 32 1)
    (constant (F := Ideal) S_ .f32 0x7F800000#32) (constantI S_ 32 0#32) reducesTo_S9216x8192_S9216_d1 h_S_ j (⊤, 0#32)
    posInf rfl

/-- The second entries at an index. -/
theorem seconds_apply (f : S9216.Idx → Ideal .f32 × BitVec 32) (j : S9216.Idx) : Stages.seconds (F := Ideal) f j = (f j).2 := rfl

/-- The arg-min of a row is the word of the first of its least entries. -/
theorem nearest_apply (D : FVec Ideal S9216x8192 .f32) (r : Fin 9216) :
    ∃ k : Fin 8192, Stages.nearest D (ix1 r) = BitVec.ofNat 32 k.val ∧ IsFirst (fun k => D (ix2 r k)) k := by
  rw [Stages.nearest, seconds_apply, pairs_eq]
  exact fold_first _ _ (mem_fiber D r)

/-- The one-hot rows of the arg-min mark each row's first least entry. -/
theorem oneHot_nearest (D : FVec Ideal S9216x8192 .f32) (r : Fin 9216) (k : Fin 8192) :
    Stages.oneHot (F := Ideal) (Stages.nearest D) (ix2 r k) = hot (fun k => D (ix2 r k)) k := by
  obtain ⟨a, ha, hf⟩ := nearest_apply D r
  generalize Stages.nearest D = i at ha
  rw [hot_eq hf]
  pointwise [Stages.oneHot]
  rw [ha, cmpi_eq, uitofp_bit]
  exact if_congr ((word_eq_iff a k).trans eq_comm) rfl rfl

end Cert.First
-- ==== Proof.RefValue.lean ====
/-
  The reference's stages read at their entries in exact arithmetic.
-/
module

public import proofs.«01_k».proof.Proof.First

@[expose] public section

noncomputable section

namespace Cert.RefValue

open Cert.ReferenceIdeal Cert.ReferenceIdeal.Gen Cert.Math
open Idealize.ShloMosaic
open scoped BigOperators Classical

/-- A row over its clipped length. -/
theorem unitRows_apply (x : FVec Ideal S9216x64 .f32) (r : Fin 9216) (d : Fin 64) :
    Stages.unitRows x (ix2 r d) = unit (fun d => x (ix2 r d)) d := by
  pointwise [Stages.unitRows]
  rfl

/-- A codebook row over its clipped length. -/
theorem unitCodes_apply (w : FVec Ideal S8192x64 .f32) (k : Fin 8192) (d : Fin 64) :
    Stages.unitCodes w (ix2 k d) = unit (fun d => w (ix2 k d)) d := by
  pointwise [Stages.unitCodes]
  rfl

/-- A grid vector over its clipped length. -/
theorem unitGrid_apply (z : FVec Ideal S16x576x64 .f32) (i : Fin 16) (j : Fin 576) (d : Fin 64) :
    Stages.unitGrid z (ix3 i j d) = unit (fun d => z (ix3 i j d)) d := by
  pointwise [Stages.unitGrid]
  rfl

/-- The row a grid position is laid out from. -/
def place (i : Fin 16) (j : Fin 576) : Fin 9216 := ⟨i.val * 576 + j.val, by have := i.isLt; have := j.isLt; omega⟩

/-- The layout on the grid. -/
theorem grid_apply (q : FVec Ideal S9216x64 .f32) (i : Fin 16) (j : Fin 576) (d : Fin 64) :
    Stages.grid q (ix3 i j d) = q (ix2 (place i j) d) := by
  pointwise [Stages.grid]
  rfl

/-- The layout as rows. -/
theorem rows_apply (a : FVec Ideal S16x576x64 .f32) (i : Fin 16) (j : Fin 576) (d : Fin 64) :
    Stages.rows a (ix2 (place i j) d) = a (ix3 i j d) := by
  pointwise [Stages.rows]
  refine congrArg a (congrArg₂ (fun i j => ix3 i j d) (Fin.ext ?_) (Fin.ext ?_))
  · have := j.isLt
    show (i.val * 576 + j.val) / 576 = i.val
    omega
  · have := j.isLt
    show (i.val * 576 + j.val) % 576 = j.val
    omega

/-- The distances. -/
theorem dist_apply (x : FVec Ideal S9216x64 .f32) (w : FVec Ideal S8192x64 .f32) (r : Fin 9216) (k : Fin 8192) :
    Stages.dist x w (ix2 r k) = Stages.rowSq x (ix2 r 0) + Stages.codeSq w (ix2 0 k)
      - Ideal.ofBits .f32 0x40000000#32 * ∑ d : Fin 64, x (ix2 r d) * w (ix2 k d) := by
  pointwise [Stages.dist]

/-- The picked codes. -/
theorem picked_apply (e : FVec Ideal S9216x8192 .f32) (w : FVec Ideal S8192x64 .f32) (r : Fin 9216) (d : Fin 64) :
    Stages.picked e w (ix2 r d) = ∑ k : Fin 8192, e (ix2 r k) * w (ix2 k d) := by
  pointwise [Stages.picked]

/-- The total squared difference on the grid. -/
def total (q x : FVec Ideal S16x576x64 .f32) : EReal :=
  ∑ i : Fin 16, ∑ j : Fin 576, ∑ d : Fin 64, (q (ix3 i j d) - x (ix3 i j d)) * (q (ix3 i j d) - x (ix3 i j d))

/-- The loss of it. -/
theorem lossOf_apply (q x : FVec Ideal S16x576x64 .f32) : Stages.lossOf q x ix0 =
    Ideal.div (total q x) (Ideal.ofBits .f32 0x49100000#32)
      + Ideal.ofBits .f32 0x3E800000#32 * Ideal.div (total q x) (Ideal.ofBits .f32 0x49100000#32) := by
  pointwise [Stages.lossOf, Stages.meanSq]
  rfl

/-- The perplexity. -/
theorem perplexity_apply (e : FVec Ideal S9216x8192 .f32) :
    Stages.perplexityOf (Stages.usage e) ix0 = perplex fun k => ∑ r : Fin 9216, e (ix2 r k) := by
  pointwise [Stages.perplexityOf, Stages.usage]
  unfold perplex
  rw [zero_sub]

/-- The moved embeddings. -/
theorem moved_apply (q x : FVec Ideal S16x576x64 .f32) (i : Fin 16) (j : Fin 576) (d : Fin 64) :
    Stages.moved q x (ix3 i j d) = x (ix3 i j d) + (q (ix3 i j d) - x (ix3 i j d)) := by
  pointwise [Stages.moved]

end Cert.RefValue
-- ==== Proof.Final.lean ====
/-
  What the kernel's run leaves, in exact arithmetic: its arrays after the last point are the stages of the reference.
-/
module

public import proofs.«01_k».proof.Proof.Blocks
public import proofs.«01_k».proof.Proof.Block
public import proofs.«01_k».proof.Proof.RefValue

@[expose] public section

noncomputable section

namespace Cert.KernelIdeal.Final

open Cert.KernelIdeal Cert.KernelIdeal.Gen Cert.KernelIdeal.Entry Cert.KernelIdeal.Blocks Cert.KernelIdeal.Run Cert.Math
open Idealize.ShloMosaic Idealize.ShloMosaic.TcCoe
open scoped BigOperators Classical

variable (m : (ℓ : Loc nD τ sig) → Buf (Elt Ideal) ℓ) (c : Dev nD)

/-- The distances. -/
def D : FVec Ideal Cert.ReferenceIdeal.S9216x8192 .f32 :=
  Stages.dist (Stages.unitRows (Stages.rows (arg0 m c))) (Stages.unitCodes (arg1 m c))

/-- The one-hot codes. -/
def E : FVec Ideal Cert.ReferenceIdeal.S9216x8192 .f32 := Stages.codes (arg0 m c) (arg1 m c)

/-- The picked codes over their clipped lengths. -/
def Q : FVec Ideal Cert.ReferenceIdeal.S9216x64 .f32 := Stages.unitRows (Stages.picked (E m c) (arg1 m c))

/-- The normalised rows. -/
def X : FVec Ideal Cert.ReferenceIdeal.S9216x64 .f32 := Stages.unitRows (Stages.rows (arg0 m c))

/-- The codebook as kept is the codebook. -/
theorem wnb_eq : wnb m c = Stages.unitCodes (arg1 m c) := by
  funext y
  rw [eq_ix2 y, ← codes_blk m c pt0]
  unfold wnb
  generalize iblk m c 2 pt0 = v
  pointwise [k0_pay4]

/-- The extended codebook as kept. -/
theorem wext_eq : wext m c = k0_pay5 (arg1 m c) := by
  unfold wext
  rw [code_blk]

/-- The distances of a block's row are those of its row of the whole. -/
theorem row_eq (t : Fin cfg0.N) (r : Fin 256) :
    Block.row (iblk m c 0 t) (iblk m c 1 t) (wnb m c) (iblk m c 3 t) r = fun k => D m c (ix2 (rowAt t r) k) := by
  funext k
  unfold D
  rw [RefValue.dist_apply]
  unfold Block.row
  rw [wnb_eq, codeSq_blk, rowSq_blk]
  simp only [rows_blk]

/-- The one-hot codes, as the hot entries of the distances. -/
theorem E_apply (R : Fin 9216) (k : Fin 8192) : E m c (ix2 R k) = hot (fun k => D m c (ix2 R k)) k :=
  First.oneHot_nearest (D m c) R k

/-- The encodings after a point. -/
theorem enc_after (t : Fin cfg0.N) (r : Fin 256) (k : Fin 8192) : (dats m 0 c).after 5 t (ix2 r k) = E m c (ix2 (rowAt t r) k) := by
  have h : (dats m 0 c).after 5 t
      = Body.encOf (iblk m c 0 t) (iblk m c 1 t) (wnb m c) (iblk m c 3 t) (wext m c) := by dsimp only [dats]
  have e := Block.enc_apply (iblk m c 0 t) (iblk m c 1 t) (wnb m c) (iblk m c 3 t) (arg1 m c) r k
  rw [row_eq, ← wext_eq, ← E_apply, ← h] at e
  exact e

/-- The gathered rows at a point. -/
theorem qe_after (t : Fin cfg0.N) (r : Fin 256) (d : Fin 64) :
    Body.cols (qeAt m c t) (ix2 r d) = Stages.picked (E m c) (arg1 m c) (ix2 (rowAt t r) d) := by
  rw [RefValue.picked_apply]
  simp only [E_apply, ← row_eq]
  rw [← Block.qe_apply, ← wext_eq]

/-- The quantised rows after a point. -/
theorem q_after (t : Fin cfg0.N) (r : Fin 256) (d : Fin 64) :
    k0_pay21 (Body.cols (qeAt m c t)) (ix2 r d) = Q m c (ix2 (rowAt t r) d) := by
  unfold Q
  rw [Block.unit_apply, RefValue.unitRows_apply]
  simp only [qe_after]

/-- The counts after `n` points. -/
theorem cnt_after (n : ℕ) (k : Fin 8192) :
    cntAt m c n (ix2 0 k) = ∑ t ∈ Finset.range n, ∑ r : Fin 256, E m c (ix2 (rowAt (pt t) r) k) := by
  induction n with
  | zero => exact Block.zero_cnt k
  | succ n ih =>
    rw [Finset.sum_range_succ, ← ih, cntAt, wext_eq, Block.cnt_apply]
    simp only [E_apply, row_eq]

/-- The squared differences of a row. -/
def gap (R : Fin 9216) : EReal :=
  ∑ d : Fin 64, (Q m c (ix2 R d) - X m c (ix2 R d)) * (Q m c (ix2 R d) - X m c (ix2 R d))

/-- The loss's sum after `n` points. -/
theorem loss_after (n : ℕ) : lossAt m c n (ix2 0 0) = ∑ t ∈ Finset.range n, ∑ r : Fin 256, gap m c (rowAt (pt t) r) := by
  induction n with
  | zero => exact Block.zero_loss
  | succ n ih =>
    rw [Finset.sum_range_succ, ← ih, lossAt, Block.loss_apply]
    simp only [q_after, rows_blk]
    unfold gap X
    rfl

/-- A sum over the rows, block by block. -/
theorem sum_blocks (f : Fin 9216 → EReal) :
    ∑ t ∈ Finset.range 36, ∑ r : Fin 256, f (rowAt (pt t) r) = ∑ R : Fin 9216, f R := by
  rw [← Fin.sum_univ_eq_sum_range (fun t => ∑ r : Fin 256, f (rowAt (pt t) r)) 36, sum_split 36 256 9216 rfl f]
  refine Finset.sum_congr rfl fun t _ => Finset.sum_congr rfl fun r _ => congrArg f (Fin.ext ?_)
  have : t.val < 36 := t.isLt
  show t.val % 36 * 256 + r.val = t.val * 256 + r.val
  rw [Nat.mod_eq_of_lt this]

/-- The encodings' array. -/
theorem arr_enc : (dats m 0 c).arrAt 5 cfg0.N = E m c := by
  refine (dats m 0 c).arrAt_eq_of_covers 5 _ (by decide +kernel) fun t hf y => ?_
  have := index_eq t
  blk_simp
  refine ((congrArg ((dats m 0 c).after 5 t) (eq_ix2 (n0 := 256) (n1 := 8192) y)).trans (enc_after m c t (y 0) (y 1))).trans ?_
  generalize E m c = G
  blk_ext [rowAt, this]

/-- The quantised rows' array. -/
theorem arr_q : (dats m 0 c).arrAt 6 cfg0.N = Q m c := by
  refine (dats m 0 c).arrAt_eq_of_covers 6 _ (by decide +kernel) fun t hf y => ?_
  have := index_eq t
  have h : (dats m 0 c).after 6 t = k0_pay21 (Body.cols (qeAt m c t)) := by dsimp only [dats]
  blk_simp
  rw [h]
  refine ((congrArg (k0_pay21 (Body.cols (qeAt m c t))) (eq_ix2 (n0 := 256) (n1 := 64) y)).trans (q_after m c t (y 0) (y 1))).trans ?_
  generalize Q m c = G
  blk_ext [rowAt, this]

/-- The loss's buffer after the last point. -/
theorem loss_last (t : Fin cfg0.N) (h : t.val + 1 = 36) : (dats m 0 c).after 7 t = k0_pay2 (lossAt m c 36) := by
  have e : (dats m 0 c).after 7 t = lossOut m c t := by dsimp only [dats]
  rw [e]
  unfold lossOut
  rw [if_pos (by omega), h]

/-- The loss's array. -/
theorem arr_loss : (dats m 0 c).arrAt 7 cfg0.N = k0_pay2 (lossAt m c 36) := by
  refine (dats m 0 c).arrAt_eq_of_after_last 7 ⟨35, by decide⟩ (by decide +kernel) _ fun j => ?_
  blk_simp
  exact congrFun (loss_last m c _ rfl) j

/-- The perplexity's buffer after the last point. -/
theorem perp_last : (dats m 0 c).after 8 ⟨35, by decide⟩ = k0_pay3 (cntAt m c 36) := by
  dsimp only [dats]

/-- The perplexity's array. -/
theorem arr_perp : (dats m 0 c).arrAt 8 cfg0.N = k0_pay3 (cntAt m c 36) := by
  refine (dats m 0 c).arrAt_eq_of_after_last 8 ⟨35, by decide⟩ (by decide +kernel) _ fun j => ?_
  blk_simp
  exact congrFun (perp_last m c) j

end Cert.KernelIdeal.Final
-- ==== Proof.Results.lean ====
/-
  The kernel's four results are the reference's: what stands in the kernel's arrays, laid out as the results, against the
  reference's last stages.
-/
module

public import proofs.«01_k».proof.Proof.Final

@[expose] public section

noncomputable section

namespace Cert.KernelIdeal.Results

open Cert.KernelIdeal Cert.KernelIdeal.Gen Cert.KernelIdeal.Entry Cert.KernelIdeal.Final Cert.KernelIdeal.Run Cert.Math
open Idealize.ShloMosaic Idealize.ShloMosaic.TcCoe
open scoped BigOperators Classical

variable (m : (ℓ : Loc nD τ sig) → Buf (Elt Ideal) ℓ) (c : Dev nD)

/-- The reference's quantised grid is the kernel's quantised rows. -/
theorem quantized_apply (i : Fin 16) (j : Fin 576) (d : Fin 64) :
    Stages.quantized (arg0 m c) (arg1 m c) (ix3 i j d) = Q m c (ix2 (RefValue.place i j) d) := by
  unfold Q E Stages.quantized
  rw [RefValue.unitGrid_apply, RefValue.unitRows_apply]
  simp only [RefValue.grid_apply]

/-- The reference's normalised grid is the normalised rows. -/
theorem unitGrid_apply (i : Fin 16) (j : Fin 576) (d : Fin 64) :
    Stages.unitGrid (arg0 m c) (ix3 i j d) = X m c (ix2 (RefValue.place i j) d) := by
  unfold X
  rw [RefValue.unitGrid_apply, RefValue.unitRows_apply]
  simp only [RefValue.rows_apply]

/-- The quantised rows are real, -/
theorem Q_real (R : Fin 9216) (d : Fin 64) : ∃ r : ℝ, Q m c (ix2 R d) = r := by
  unfold Q
  rw [RefValue.unitRows_apply]
  exact unit_real _ d

/-- and the normalised rows are. -/
theorem X_real (R : Fin 9216) (d : Fin 64) : ∃ r : ℝ, X m c (ix2 R d) = r := by
  unfold X
  rw [RefValue.unitRows_apply]
  exact unit_real _ d

/-- So the squared differences of a row add up to a real. -/
theorem gap_real (R : Fin 9216) : ∃ r : ℝ, gap m c R = r := by
  refine sum_real _ _ fun d => ?_
  obtain ⟨p, hp⟩ := Q_real m c R d
  obtain ⟨q, hq⟩ := X_real m c R d
  exact ⟨(p - q) * (p - q), by rw [hp, hq, ← EReal.coe_sub, ← EReal.coe_mul]⟩

/-- The first result. -/
theorem out_eq : Stages.grid (Q m c) = Stages.quantizedOut (arg0 m c) (arg1 m c) := by
  funext y
  obtain ⟨i, j, d, rfl⟩ : ∃ (i : Fin 16) (j : Fin 576) (d : Fin 64), y = ix3 i j d := ⟨y 0, y 1, y 2, eq_ix3 y⟩
  unfold Stages.quantizedOut
  rw [RefValue.grid_apply, RefValue.moved_apply, quantized_apply, unitGrid_apply, add_sub_real (X_real m c _ _) (Q_real m c _ _)]

/-- The second result. -/
theorem loss_eq : k0_pay2 (lossAt m c 36) (ix2 0 0) = Stages.loss (arg0 m c) (arg1 m c) ix0 := by
  have ht : RefValue.total (Stages.quantized (arg0 m c) (arg1 m c)) (Stages.unitGrid (arg0 m c)) = ∑ R : Fin 9216, gap m c R := by
    rw [sum_split 16 576 9216 rfl]
    unfold RefValue.total
    simp only [quantized_apply, unitGrid_apply]
    rfl
  unfold Stages.loss
  rw [RefValue.lossOf_apply, ht, Block.scale_apply, loss_after, sum_blocks, loss_scale (sum_real _ _ (gap_real m c))]

/-- The third result. -/
theorem perp_eq : k0_pay3 (cntAt m c 36) (ix2 0 0) = Stages.perplexity (arg0 m c) (arg1 m c) ix0 := by
  unfold Stages.perplexity
  rw [RefValue.perplexity_apply, Block.perp_apply]
  refine congrArg perplex (funext fun k => ?_)
  rw [cnt_after, sum_blocks fun R => E m c (ix2 R k)]
  rfl

end Cert.KernelIdeal.Results
-- ==== Proof.Algebraic.lean ====
/-
  The value claim: from equal arguments the kernel and the reference, both in exact arithmetic, leave equal results.
-/
module

public import proofs.«01_k».proof.Proof.Results
public import proofs.«01_k».proof.Proof.RefRun
public import proofs.«01_k».proof.Defs
public import Idealize.ShloMosaic.Lib.Claim

@[expose] public section

noncomputable section

namespace Cert.KernelIdeal.Outputs

open Cert.KernelIdeal Cert.KernelIdeal.Gen Cert.KernelIdeal.Entry Cert.KernelIdeal.Run Cert.KernelIdeal.Final
open Idealize.ShloMosaic Idealize.ShloMosaic.TcCoe Idealize.SL.Sem

variable (m : (ℓ : Loc nD τ sig) → Buf (Elt Ideal) ℓ) (ρ : Dev nD → PrngReg)

/-- A scalar is its one entry. -/
theorem scalar_ext {x y : FVec Ideal S_ .f32} (h : x ix0 = y ix0) : x = y :=
  funext fun i => by rw [show i = ix0 from funext fun k => k.elim0, h]

/-- A 1 × 1 array laid out as a scalar. -/
def scalar (x : FVec Ideal S1x1 .f32) : FVec Ideal S_ .f32 := shapeCast S_ x shapeCasts_S1x1_S_

/-- It has the array's one entry. -/
theorem scalar_apply (x : FVec Ideal S1x1 .f32) : scalar x ix0 = x (ix2 0 0) := by
  pointwise [scalar]

/-- What the run holds in the arrays the host's last lines read: `V` at the region's entry, with each window's final array in place. -/
abbrev ends (c : Dev nD) : Valuation τ sig (Elt Ideal) :=
  Pipeline.withArrays (cfgs 0).spec c (V0 m c) fun w => (dats m 0 c).arrAt w (cfgs 0).N

/-- A window's array, read there, is the window's final array. -/
theorem ends_arr (c : Dev nD) (w : Fin 9) :
    ends m c (Proc.devRef .tc (Pipeline.arrRef spec0 w)) = (dats m 0 c).arrAt w (cfgs 0).N :=
  Pipeline.withArrays_arr spec0 (by decide) c (V0 m c) _ w

/-- The first result: the quantised rows, on the grid. -/
theorem tail_out (c : Dev nD) :
    Pipeline.afterTail₀ cfgs (dats m) 0 (V0 m) [hostOps1] c main_v0_0 = Stages.quantizedOut (arg0 m c) (arg1 m c) := by
  have h : ends m c (Proc.devRef .tc main_call0_v15_1) = Q m c := (ends_arr m c 6).trans (arr_q m c)
  unfold Pipeline.afterTail₀
  after_reads_simp
  exact (congrArg Stages.grid h).trans (Results.out_eq m c)

/-- The second result: the loss, out of its 1 × 1 array. -/
theorem tail_loss (c : Dev nD) :
    Pipeline.afterTail₀ cfgs (dats m) 0 (V0 m) [hostOps1] c main_v0_1 = Stages.loss (arg0 m c) (arg1 m c) := by
  have h : ends m c (Proc.devRef .tc main_call0_v15_2) = k0_pay2 (lossAt m c 36) := (ends_arr m c 7).trans (arr_loss m c)
  unfold Pipeline.afterTail₀
  after_reads_simp
  exact (congrArg scalar h).trans (scalar_ext ((scalar_apply _).trans (Results.loss_eq m c)))

/-- The third result: the perplexity, out of its 1 × 1 array. -/
theorem tail_perp (c : Dev nD) :
    Pipeline.afterTail₀ cfgs (dats m) 0 (V0 m) [hostOps1] c main_v0_2 = Stages.perplexity (arg0 m c) (arg1 m c) := by
  have h : ends m c (Proc.devRef .tc main_call0_v15_3) = k0_pay3 (cntAt m c 36) := (ends_arr m c 8).trans (arr_perp m c)
  unfold Pipeline.afterTail₀
  after_reads_simp
  exact (congrArg scalar h).trans (scalar_ext ((scalar_apply _).trans (Results.perp_eq m c)))

/-- THE KERNEL'S RUN: its four results are the reference's four, of the kernel's own arguments, and the arguments are kept. -/
theorem run : θ_run (defs (F := Ideal)) (onTc (τ := τ) (main (F := Ideal))) ⟨m, fun _ => 0, ρ⟩ (fun r => ∀ c : Dev nD,
      r.2.mem ((c.tc : Thread nD τ).loc main_v0_0) = Stages.quantizedOut (arg0 m c) (arg1 m c) ∧
      r.2.mem ((c.tc : Thread nD τ).loc main_v0_1) = Stages.loss (arg0 m c) (arg1 m c) ∧
      r.2.mem ((c.tc : Thread nD τ).loc main_v0_2) = Stages.perplexity (arg0 m c) (arg1 m c) ∧
      r.2.mem ((c.tc : Thread nD τ).loc main_v0_3) = Stages.codes (arg0 m c) (arg1 m c) ∧
      r.2.mem ((c.tc : Thread nD τ).loc main_arg0) = m ((c.tc : Thread nD τ).loc main_arg0) ∧
      r.2.mem ((c.tc : Thread nD τ).loc main_arg1) = m ((c.tc : Thread nD τ).loc main_arg1)) := by
  run_from (θ_run_mono (run_main m ρ) fun r h =>
    (show Pipeline.FramePost cfgs (dats m) 0 (Pipeline.afterTail₀ cfgs (dats m) 0 (V0 m) [hostOps1]) r from h.1))
  · exact tail_out m c
  · exact tail_loss m c
  · exact tail_perp m c
  · exact arr_enc m c
  · exact W_main_arg0 m (dats m) c

end Cert.KernelIdeal.Outputs

namespace Cert.Proof

open Idealize.ShloMosaic Idealize.ShloMosaic.TcCoe Idealize.SL.Sem

/-- THE VALUE CLAIM: from equal arguments the kernel's four results are the reference's four. -/
theorem algebraic : algebraic_KernelIdeal_ReferenceIdeal (hKernelIdeal := Cert.KernelIdeal.Gen.facts) (hReferenceIdeal := Cert.ReferenceIdeal.Gen.facts) := by
  intro m g m' g' _ hagree
  have h0 : Cert.ReferenceIdeal.Value.arg0 m' = Cert.KernelIdeal.Entry.arg0 m := funext fun c => (hagree c).1
  have h1 : Cert.ReferenceIdeal.Value.arg1 m' = Cert.KernelIdeal.Entry.arg1 m := funext fun c => (hagree c).2
  have href := Cert.ReferenceIdeal.Value.run m' g'
  rw [h0, h1] at href
  exact ⟨_, _, _, _, Cert.KernelIdeal.Outputs.run m g, href⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Twin
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.quiescentKernel, Cert.Proof.quiescentKernelIdeal, Cert.ReferenceIdeal.Value.quiescentReferenceIdeal, trivial, Cert.Proof.algebraic⟩

end Cert.Proof

end
